-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1024x32 : Shape := ⟨3, ![128, 1024, 32]⟩
abbrev S128 : Shape := ⟨1, ![128]⟩
abbrev S32x16x1x5 : Shape := ⟨4, ![32, 16, 1, 5]⟩
abbrev S32x16 : Shape := ⟨2, ![32, 16]⟩
abbrev S32x16x16x5 : Shape := ⟨4, ![32, 16, 16, 5]⟩
abbrev S32x4x64 : Shape := ⟨3, ![32, 4, 64]⟩
abbrev S32x4 : Shape := ⟨2, ![32, 4]⟩
abbrev S32x1024x128 : Shape := ⟨3, ![32, 1024, 128]⟩
abbrev S4x8x131072 : Shape := ⟨3, ![4, 8, 131072]⟩
abbrev S8x8 : Shape := ⟨2, ![8, 8]⟩
abbrev S_ : Shape := ⟨0, ![]⟩
abbrev S32x16x5 : Shape := ⟨3, ![32, 16, 5]⟩
abbrev S4x8x16x5 : Shape := ⟨4, ![4, 8, 16, 5]⟩
abbrev S4x8x16x5x1 : Shape := ⟨5, ![4, 8, 16, 5, 1]⟩
abbrev S1x8x1x1x8 : Shape := ⟨5, ![1, 8, 1, 1, 8]⟩
abbrev S4x8x16x5x8 : Shape := ⟨5, ![4, 8, 16, 5, 8]⟩
abbrev S4x128x40 : Shape := ⟨3, ![4, 128, 40]⟩
abbrev S4x128x1 : Shape := ⟨3, ![4, 128, 1]⟩
abbrev S4x128x7 : Shape := ⟨3, ![4, 128, 7]⟩
abbrev S4x128x48 : Shape := ⟨3, ![4, 128, 48]⟩
abbrev S4x8x16x16x5 : Shape := ⟨5, ![4, 8, 16, 16, 5]⟩
abbrev S4x5x8x16x16 : Shape := ⟨5, ![4, 5, 8, 16, 16]⟩
abbrev S4x5x8x16x1x16 : Shape := ⟨6, ![4, 5, 8, 16, 1, 16]⟩
abbrev S1x1x8x1x8x1 : Shape := ⟨6, ![1, 1, 8, 1, 8, 1]⟩
abbrev S4x5x8x16x8x16 : Shape := ⟨6, ![4, 5, 8, 16, 8, 16]⟩
abbrev S4x5x128x128 : Shape := ⟨4, ![4, 5, 128, 128]⟩
abbrev S4x1x128x128 : Shape := ⟨4, ![4, 1, 128, 128]⟩
abbrev S4x128x128 : Shape := ⟨3, ![4, 128, 128]⟩
abbrev S4x128x641 : Shape := ⟨3, ![4, 128, 641]⟩
abbrev S4x8x4x16x4 : Shape := ⟨5, ![4, 8, 4, 16, 4]⟩
abbrev S4x8x4x4x16 : Shape := ⟨5, ![4, 8, 4, 4, 16]⟩
abbrev S4x8x4x4x1x16 : Shape := ⟨6, ![4, 8, 4, 4, 1, 16]⟩
abbrev S1x8x1x1x8x1 : Shape := ⟨6, ![1, 8, 1, 1, 8, 1]⟩
abbrev S4x8x4x4x8x16 : Shape := ⟨6, ![4, 8, 4, 4, 8, 16]⟩
abbrev S4x32x512 : Shape := ⟨3, ![4, 32, 512]⟩
abbrev S4x32x1 : Shape := ⟨3, ![4, 32, 1]⟩
abbrev S4x32x128 : Shape := ⟨3, ![4, 32, 128]⟩
abbrev S1x8x131072 : Shape := ⟨3, ![1, 8, 131072]⟩
abbrev S1x128x48 : Shape := ⟨3, ![1, 128, 48]⟩
abbrev S1x128x641 : Shape := ⟨3, ![1, 128, 641]⟩
abbrev S1x32x512 : Shape := ⟨3, ![1, 32, 512]⟩
abbrev S1x32x1 : Shape := ⟨3, ![1, 32, 1]⟩
abbrev S1x32x128 : Shape := ⟨3, ![1, 32, 128]⟩
abbrev S8x131072 : Shape := ⟨2, ![8, 131072]⟩
abbrev S128x48 : Shape := ⟨2, ![128, 48]⟩
abbrev S128x641 : Shape := ⟨2, ![128, 641]⟩
abbrev S8x8704 : Shape := ⟨2, ![8, 8704]⟩
abbrev S1x8192 : Shape := ⟨2, ![1, 8192]⟩
abbrev S8x512 : Shape := ⟨2, ![8, 512]⟩
abbrev S8x8192 : Shape := ⟨2, ![8, 8192]⟩
abbrev S8x384 : Shape := ⟨2, ![8, 384]⟩
abbrev S8x8320 : Shape := ⟨2, ![8, 8320]⟩
abbrev S8x256 : Shape := ⟨2, ![8, 256]⟩
abbrev S8x8448 : Shape := ⟨2, ![8, 8448]⟩
abbrev S8x128 : Shape := ⟨2, ![8, 128]⟩
abbrev S8x8576 : Shape := ⟨2, ![8, 8576]⟩
abbrev S48x8704 : Shape := ⟨2, ![48, 8704]⟩
abbrev S128x8704 : Shape := ⟨2, ![128, 8704]⟩
abbrev S1x8704 : Shape := ⟨2, ![1, 8704]⟩
abbrev S128x8192 : Shape := ⟨2, ![128, 8192]⟩
abbrev S641x8192 : Shape := ⟨2, ![641, 8192]⟩
abbrev S128x4096 : Shape := ⟨2, ![128, 4096]⟩
abbrev S128x2048 : Shape := ⟨2, ![128, 2048]⟩
abbrev S128x1024 : Shape := ⟨2, ![128, 1024]⟩
abbrev S128x512 : Shape := ⟨2, ![128, 512]⟩
abbrev S128x256 : Shape := ⟨2, ![128, 256]⟩
abbrev S128x128 : Shape := ⟨2, ![128, 128]⟩
abbrev S512x128 : Shape := ⟨2, ![512, 128]⟩
abbrev S32x512 : Shape := ⟨2, ![32, 512]⟩
abbrev S32x128 : Shape := ⟨2, ![32, 128]⟩
abbrev S32x1 : Shape := ⟨2, ![32, 1]⟩

abbrev nBuf : Space → Nat
  | .hbm => 67
  | .vmem => 12
  | .smem => 0
  | _ => 0

abbrev bufTy : (tb : Table) → Fin (tcTables nBuf tb) → BufTy
  | .hbm, ⟨0, _⟩ => ⟨S128x1024x32, .f32⟩
  | .hbm, ⟨1, _⟩ => ⟨S128, .i32⟩
  | .hbm, ⟨2, _⟩ => ⟨S32x16x1x5, .f32⟩
  | .hbm, ⟨3, _⟩ => ⟨S32x16, .f32⟩
  | .hbm, ⟨4, _⟩ => ⟨S32x16x16x5, .f32⟩
  | .hbm, ⟨5, _⟩ => ⟨S32x16, .f32⟩
  | .hbm, ⟨6, _⟩ => ⟨S32x4x64, .f32⟩
  | .hbm, ⟨7, _⟩ => ⟨S32x4, .f32⟩
  | .hbm, ⟨8, _⟩ => ⟨S128x1024x32, .bf16⟩
  | .hbm, ⟨9, _⟩ => ⟨S32x1024x128, .bf16⟩
  | .hbm, ⟨10, _⟩ => ⟨S4x8x131072, .bf16⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S32x16x5, .f32⟩
  | .hbm, ⟨19, _⟩ => ⟨S4x8x16x5, .f32⟩
  | .hbm, ⟨20, _⟩ => ⟨S4x8x16x5x1, .f32⟩
  | .hbm, ⟨21, _⟩ => ⟨S1x8x1x1x8, .f32⟩
  | .hbm, ⟨22, _⟩ => ⟨S4x8x16x5x8, .f32⟩
  | .hbm, ⟨23, _⟩ => ⟨S4x8x16x5x8, .f32⟩
  | .hbm, ⟨24, _⟩ => ⟨S4x8x16x5x8, .f32⟩
  | .hbm, ⟨25, _⟩ => ⟨S4x128x40, .f32⟩
  | .hbm, ⟨26, _⟩ => ⟨S4x128x1, .f32⟩
  | .hbm, ⟨27, _⟩ => ⟨S_, .f32⟩
  | .hbm, ⟨28, _⟩ => ⟨S4x128x7, .f32⟩
  | .hbm, ⟨29, _⟩ => ⟨S4x128x48, .f32⟩
  | .hbm, ⟨30, _⟩ => ⟨S4x128x48, .bf16⟩
  | .hbm, ⟨31, _⟩ => ⟨S4x8x16x16x5, .f32⟩
  | .hbm, ⟨32, _⟩ => ⟨S4x5x8x16x16, .f32⟩
  | .hbm, ⟨33, _⟩ => ⟨S4x5x8x16x1x16, .f32⟩
  | .hbm, ⟨34, _⟩ => ⟨S1x1x8x1x8x1, .f32⟩
  | .hbm, ⟨35, _⟩ => ⟨S4x5x8x16x8x16, .f32⟩
  | .hbm, ⟨36, _⟩ => ⟨S4x5x8x16x8x16, .f32⟩
  | .hbm, ⟨37, _⟩ => ⟨S4x5x8x16x8x16, .f32⟩
  | .hbm, ⟨38, _⟩ => ⟨S4x5x128x128, .f32⟩
  | .hbm, ⟨39, _⟩ => ⟨S4x1x128x128, .f32⟩
  | .hbm, ⟨40, _⟩ => ⟨S4x128x128, .f32⟩
  | .hbm, ⟨41, _⟩ => ⟨S4x1x128x128, .f32⟩
  | .hbm, ⟨42, _⟩ => ⟨S4x128x128, .f32⟩
  | .hbm, ⟨43, _⟩ => ⟨S4x1x128x128, .f32⟩
  | .hbm, ⟨44, _⟩ => ⟨S4x128x128, .f32⟩
  | .hbm, ⟨45, _⟩ => ⟨S4x1x128x128, .f32⟩
  | .hbm, ⟨46, _⟩ => ⟨S4x128x128, .f32⟩
  | .hbm, ⟨47, _⟩ => ⟨S4x1x128x128, .f32⟩
  | .hbm, ⟨48, _⟩ => ⟨S4x128x128, .f32⟩
  | .hbm, ⟨49, _⟩ => ⟨S4x128x1, .f32⟩
  | .hbm, ⟨50, _⟩ => ⟨S4x128x641, .f32⟩
  | .hbm, ⟨51, _⟩ => ⟨S4x128x641, .bf16⟩
  | .hbm, ⟨52, _⟩ => ⟨S_, .f32⟩
  | .hbm, ⟨53, _⟩ => ⟨S32x4x64, .f32⟩
  | .hbm, ⟨54, _⟩ => ⟨S32x4x64, .f32⟩
  | .hbm, ⟨55, _⟩ => ⟨S4x8x4x16x4, .f32⟩
  | .hbm, ⟨56, _⟩ => ⟨S4x8x4x4x16, .f32⟩
  | .hbm, ⟨57, _⟩ => ⟨S4x8x4x4x1x16, .f32⟩
  | .hbm, ⟨58, _⟩ => ⟨S1x8x1x1x8x1, .f32⟩
  | .hbm, ⟨59, _⟩ => ⟨S4x8x4x4x8x16, .f32⟩
  | .hbm, ⟨60, _⟩ => ⟨S4x8x4x4x8x16, .f32⟩
  | .hbm, ⟨61, _⟩ => ⟨S4x8x4x4x8x16, .f32⟩
  | .hbm, ⟨62, _⟩ => ⟨S4x32x512, .f32⟩
  | .hbm, ⟨63, _⟩ => ⟨S4x32x1, .f32⟩
  | .hbm, ⟨64, _⟩ => ⟨S4x32x128, .f32⟩
  | .hbm, ⟨65, _⟩ => ⟨S128x128, .f32⟩
  | .hbm, ⟨66, _⟩ => ⟨S128x128, .f32⟩
  | .local _ .vmem, ⟨0, _⟩ => ⟨S1x8x131072, .bf16⟩
  | .local _ .vmem, ⟨1, _⟩ => ⟨S1x8x131072, .bf16⟩
  | .local _ .vmem, ⟨2, _⟩ => ⟨S1x128x48, .bf16⟩
  | .local _ .vmem, ⟨3, _⟩ => ⟨S1x128x48, .bf16⟩
  | .local _ .vmem, ⟨4, _⟩ => ⟨S1x128x641, .bf16⟩
  | .local _ .vmem, ⟨5, _⟩ => ⟨S1x128x641, .bf16⟩
  | .local _ .vmem, ⟨6, _⟩ => ⟨S1x32x512, .f32⟩
  | .local _ .vmem, ⟨7, _⟩ => ⟨S1x32x512, .f32⟩
  | .local _ .vmem, ⟨8, _⟩ => ⟨S1x32x1, .f32⟩
  | .local _ .vmem, ⟨9, _⟩ => ⟨S1x32x1, .f32⟩
  | .local _ .vmem, ⟨10, _⟩ => ⟨S1x32x128, .f32⟩
  | .local _ .vmem, ⟨11, _⟩ => ⟨S1x32x128, .f32⟩
  | _, _ => ⟨S128x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_0 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x131072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x48 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x641 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S128x1024x32 : Shape := ⟨3, ![128, 1024, 32]⟩
abbrev S128 : Shape := ⟨1, ![128]⟩
abbrev S32x16x1x5 : Shape := ⟨4, ![32, 16, 1, 5]⟩
abbrev S32x16 : Shape := ⟨2, ![32, 16]⟩
abbrev S32x16x16x5 : Shape := ⟨4, ![32, 16, 16, 5]⟩
abbrev S32x4x64 : Shape := ⟨3, ![32, 4, 64]⟩
abbrev S32x4 : Shape := ⟨2, ![32, 4]⟩
abbrev S32x128x1024 : Shape := ⟨3, ![32, 128, 1024]⟩
abbrev S_ : Shape := ⟨0, ![]⟩
abbrev S32x128x1028 : Shape := ⟨3, ![32, 128, 1028]⟩
abbrev S32x128x1x1024 : Shape := ⟨4, ![32, 128, 1, 1024]⟩
abbrev S32x16x1x1 : Shape := ⟨4, ![32, 16, 1, 1]⟩
abbrev S32x1x16x1 : Shape := ⟨4, ![32, 1, 16, 1]⟩
abbrev S32x128x16x1024 : Shape := ⟨4, ![32, 128, 16, 1024]⟩
abbrev S32x128x16x1028 : Shape := ⟨4, ![32, 128, 16, 1028]⟩
abbrev S32x16x16x1 : Shape := ⟨4, ![32, 16, 16, 1]⟩
abbrev S32x16x16 : Shape := ⟨3, ![32, 16, 16]⟩
abbrev S32x16x128x1024 : Shape := ⟨4, ![32, 16, 128, 1024]⟩
abbrev S32x128x16x4x256 : Shape := ⟨5, ![32, 128, 16, 4, 256]⟩
abbrev S32x128x16x4 : Shape := ⟨4, ![32, 128, 16, 4]⟩
abbrev S32x128x64 : Shape := ⟨3, ![32, 128, 64]⟩
abbrev S32x128x4 : Shape := ⟨3, ![32, 128, 4]⟩
abbrev S32x1x4 : Shape := ⟨3, ![32, 1, 4]⟩
abbrev S128x32x4 : Shape := ⟨3, ![128, 32, 4]⟩
abbrev S128x128 : Shape := ⟨2, ![128, 128]⟩

abbrev nBuf : Space → Nat
  | .hbm => 113
  | .vmem => 0
  | .smem => 0
  | _ => 0

abbrev bufTy : (tb : Table) → Fin (tcTables nBuf tb) → BufTy
  | .hbm, ⟨0, _⟩ => ⟨S128x1024x32, .f32⟩
  | .hbm, ⟨1, _⟩ => ⟨S128, .i32⟩
  | .hbm, ⟨2, _⟩ => ⟨S32x16x1x5, .f32⟩
  | .hbm, ⟨3, _⟩ => ⟨S32x16, .f32⟩
  | .hbm, ⟨4, _⟩ => ⟨S32x16x16x5, .f32⟩
  | .hbm, ⟨5, _⟩ => ⟨S32x16, .f32⟩
  | .hbm, ⟨6, _⟩ => ⟨S32x4x64, .f32⟩
  | .hbm, ⟨7, _⟩ => ⟨S32x4, .f32⟩
  | .hbm, ⟨8, _⟩ => ⟨S32x128x1024, .f32⟩
  | .hbm, ⟨9, _⟩ => ⟨S_, .i32⟩
  | .hbm, ⟨10, _⟩ => ⟨S_, .f32⟩
  | .hbm, ⟨11, _⟩ => ⟨S32x128x1028, .f32⟩
  | .hbm, ⟨12, _⟩ => ⟨S32x128x1024, .f32⟩
  | .hbm, ⟨13, _⟩ => ⟨S32x128x1x1024, .f32⟩
  | .hbm, ⟨14, _⟩ => ⟨S32x16x1x1, .f32⟩
  | .hbm, ⟨15, _⟩ => ⟨S32x16, .f32⟩
  | .hbm, ⟨16, _⟩ => ⟨S32x1x16x1, .f32⟩
  | .hbm, ⟨17, _⟩ => ⟨S32x128x16x1024, .f32⟩
  | .hbm, ⟨18, _⟩ => ⟨S32x128x16x1024, .f32⟩
  | .hbm, ⟨19, _⟩ => ⟨S32x128x16x1024, .f32⟩
  | .hbm, ⟨20, _⟩ => ⟨S32x128x1024, .f32⟩
  | .hbm, ⟨21, _⟩ => ⟨S32x128x1x1024, .f32⟩
  | .hbm, ⟨22, _⟩ => ⟨S32x16x1x1, .f32⟩
  | .hbm, ⟨23, _⟩ => ⟨S32x16, .f32⟩
  | .hbm, ⟨24, _⟩ => ⟨S32x1x16x1, .f32⟩
  | .hbm, ⟨25, _⟩ => ⟨S32x128x16x1024, .f32⟩
  | .hbm, ⟨26, _⟩ => ⟨S32x128x16x1024, .f32⟩
  | .hbm, ⟨27, _⟩ => ⟨S32x128x16x1024, .f32⟩
  | .hbm, ⟨28, _⟩ => ⟨S32x128x16x1024, .f32⟩
  | .hbm, ⟨29, _⟩ => ⟨S32x128x1024, .f32⟩
  | .hbm, ⟨30, _⟩ => ⟨S32x128x1x1024, .f32⟩
  | .hbm, ⟨31, _⟩ => ⟨S32x16x1x1, .f32⟩
  | .hbm, ⟨32, _⟩ => ⟨S32x16, .f32⟩
  | .hbm, ⟨33, _⟩ => ⟨S32x1x16x1, .f32⟩
  | .hbm, ⟨34, _⟩ => ⟨S32x128x16x1024, .f32⟩
  | .hbm, ⟨35, _⟩ => ⟨S32x128x16x1024, .f32⟩
  | .hbm, ⟨36, _⟩ => ⟨S32x128x16x1024, .f32⟩
  | .hbm, ⟨37, _⟩ => ⟨S32x128x16x1024, .f32⟩
  | .hbm, ⟨38, _⟩ => ⟨S32x128x1024, .f32⟩
  | .hbm, ⟨39, _⟩ => ⟨S32x128x1x1024, .f32⟩
  | .hbm, ⟨40, _⟩ => ⟨S32x16x1x1, .f32⟩
  | .hbm, ⟨41, _⟩ => ⟨S32x16, .f32⟩
  | .hbm, ⟨42, _⟩ => ⟨S32x1x16x1, .f32⟩
  | .hbm, ⟨43, _⟩ => ⟨S32x128x16x1024, .f32⟩
  | .hbm, ⟨44, _⟩ => ⟨S32x128x16x1024, .f32⟩
  | .hbm, ⟨45, _⟩ => ⟨S32x128x16x1024, .f32⟩
  | .hbm, ⟨46, _⟩ => ⟨S32x128x16x1024, .f32⟩
  | .hbm, ⟨47, _⟩ => ⟨S32x128x1024, .f32⟩
  | .hbm, ⟨48, _⟩ => ⟨S32x128x1x1024, .f32⟩
  | .hbm, ⟨49, _⟩ => ⟨S32x16x1x1, .f32⟩
  | .hbm, ⟨50, _⟩ => ⟨S32x16, .f32⟩
  | .hbm, ⟨51, _⟩ => ⟨S32x1x16x1, .f32⟩
  | .hbm, ⟨52, _⟩ => ⟨S32x128x16x1024, .f32⟩
  | .hbm, ⟨53, _⟩ => ⟨S32x128x16x1024, .f32⟩
  | .hbm, ⟨54, _⟩ => ⟨S32x128x16x1024, .f32⟩
  | .hbm, ⟨55, _⟩ => ⟨S32x128x16x1024, .f32⟩
  | .hbm, ⟨56, _⟩ => ⟨S32x1x16x1, .f32⟩
  | .hbm, ⟨57, _⟩ => ⟨S32x128x16x1024, .f32⟩
  | .hbm, ⟨58, _⟩ => ⟨S32x128x16x1024, .f32⟩
  | .hbm, ⟨59, _⟩ => ⟨S_, .f32⟩
  | .hbm, ⟨60, _⟩ => ⟨S32x128x16x1024, .f32⟩
  | .hbm, ⟨61, _⟩ => ⟨S32x128x16x1024, .f32⟩
  | .hbm, ⟨62, _⟩ => ⟨S_, .i32⟩
  | .hbm, ⟨63, _⟩ => ⟨S_, .f32⟩
  | .hbm, ⟨64, _⟩ => ⟨S32x128x16x1028, .f32⟩
  | .hbm, ⟨65, _⟩ => ⟨S32x128x16x1024, .f32⟩
  | .hbm, ⟨66, _⟩ => ⟨S32x16x16x1, .f32⟩
  | .hbm, ⟨67, _⟩ => ⟨S32x16x16, .f32⟩
  | .hbm, ⟨68, _⟩ => ⟨S32x16x128x1024, .f32⟩
  | .hbm, ⟨69, _⟩ => ⟨S32x128x16x1024, .f32⟩
  | .hbm, ⟨70, _⟩ => ⟨S32x128x16x1024, .f32⟩
  | .hbm, ⟨71, _⟩ => ⟨S32x16x16x1, .f32⟩
  | .hbm, ⟨72, _⟩ => ⟨S32x16x16, .f32⟩
  | .hbm, ⟨73, _⟩ => ⟨S32x16x128x1024, .f32⟩
  | .hbm, ⟨74, _⟩ => ⟨S32x128x16x1024, .f32⟩
  | .hbm, ⟨75, _⟩ => ⟨S32x128x16x1024, .f32⟩
  | .hbm, ⟨76, _⟩ => ⟨S32x128x16x1024, .f32⟩
  | .hbm, ⟨77, _⟩ => ⟨S32x16x16x1, .f32⟩
  | .hbm, ⟨78, _⟩ => ⟨S32x16x16, .f32⟩
  | .hbm, ⟨79, _⟩ => ⟨S32x16x128x1024, .f32⟩
  | .hbm, ⟨80, _⟩ => ⟨S32x128x16x1024, .f32⟩
  | .hbm, ⟨81, _⟩ => ⟨S32x128x16x1024, .f32⟩
  | .hbm, ⟨82, _⟩ => ⟨S32x128x16x1024, .f32⟩
  | .hbm, ⟨83, _⟩ => ⟨S32x16x16x1, .f32⟩
  | .hbm, ⟨84, _⟩ => ⟨S32x16x16, .f32⟩
  | .hbm, ⟨85, _⟩ => ⟨S32x16x128x1024, .f32⟩
  | .hbm, ⟨86, _⟩ => ⟨S32x128x16x1024, .f32⟩
  | .hbm, ⟨87, _⟩ => ⟨S32x128x16x1024, .f32⟩
  | .hbm, ⟨88, _⟩ => ⟨S32x128x16x1024, .f32⟩
  | .hbm, ⟨89, _⟩ => ⟨S32x16x16x1, .f32⟩
  | .hbm, ⟨90, _⟩ => ⟨S32x16x16, .f32⟩
  | .hbm, ⟨91, _⟩ => ⟨S32x16x128x1024, .f32⟩
  | .hbm, ⟨92, _⟩ => ⟨S32x128x16x1024, .f32⟩
  | .hbm, ⟨93, _⟩ => ⟨S32x128x16x1024, .f32⟩
  | .hbm, ⟨94, _⟩ => ⟨S32x1x16x1, .f32⟩
  | .hbm, ⟨95, _⟩ => ⟨S32x128x16x1024, .f32⟩
  | .hbm, ⟨96, _⟩ => ⟨S32x128x16x1024, .f32⟩
  | .hbm, ⟨97, _⟩ => ⟨S_, .f32⟩
  | .hbm, ⟨98, _⟩ => ⟨S32x128x16x1024, .f32⟩
  | .hbm, ⟨99, _⟩ => ⟨S32x128x16x1024, .f32⟩
  | .hbm, ⟨100, _⟩ => ⟨S32x128x16x4x256, .f32⟩
  | .hbm, ⟨101, _⟩ => ⟨S_, .f32⟩
  | .hbm, ⟨102, _⟩ => ⟨S32x128x16x4, .f32⟩
  | .hbm, ⟨103, _⟩ => ⟨S_, .f32⟩
  | .hbm, ⟨104, _⟩ => ⟨S32x128x16x4, .f32⟩
  | .hbm, ⟨105, _⟩ => ⟨S32x128x16x4, .f32⟩
  | .hbm, ⟨106, _⟩ => ⟨S32x128x64, .f32⟩
  | .hbm, ⟨107, _⟩ => ⟨S32x128x4, .f32⟩
  | .hbm, ⟨108, _⟩ => ⟨S32x1x4, .f32⟩
  | .hbm, ⟨109, _⟩ => ⟨S32x128x4, .f32⟩
  | .hbm, ⟨110, _⟩ => ⟨S32x128x4, .f32⟩
  | .hbm, ⟨111, _⟩ => ⟨S128x32x4, .f32⟩
  | .hbm, ⟨112, _⟩ => ⟨S128x128, .f32⟩
  | _, _ => ⟨S128x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst : Ref sig .tc := ⟨.hbm, 59, rfl⟩
abbrev main_v49 : Ref sig .tc := ⟨.hbm, 60, rfl⟩
abbrev main_v50 : Ref sig .tc := ⟨.hbm, 61, rfl⟩
abbrev main_c_0 : Ref sig .tc := ⟨.hbm, 62, rfl⟩
abbrev main_call1_v0 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_cst_1 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_cst_2 : Ref sig .tc := ⟨.hbm, 101, rfl⟩
abbrev main_v87 : Ref sig .tc := ⟨.hbm, 102, rfl⟩
abbrev main_cst_3 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩

abbrev nD : Nat := 1
abbrev τ : Topo := Topo.v7x

variable {F : FTy → Type} [FloatOps F]
-- ==== Proof.Cnn.Chunk.lean ====
/-
  What one chunk of 64 positions computes, as functions of the five shifted windows of the signal.
  The kernel's body repeats this text sixteen times; here it is written once, and `Body.lean` shows the body is
  sixteen uses of it.
-/
module

public import proofs.«01_k».proof.Proof.Gen.KernelIdeal.Frame

@[expose] public section

noncomputable section

namespace Cert.KernelIdeal.Cnn

open Cert.KernelIdeal Cert.KernelIdeal.Gen Idealize.ShloMosaic Idealize.SL.Sem

variable {F : FTy → Type} [FloatOps F]

/-- The first layer before its activation: the block weights against five shifted windows and a row of ones. -/
def pre1 (w : FVec F S128x48 .bf16) (s0 s1 s2 s3 s4 : FVec F S8x8704 .bf16) : FVec F S128x8704 .f32 :=
  matmul dot_S128x48_S48x8704_S128x8704_1_0_0_1_n_n none w
    (concatenate S48x8704 0 [⟨S8x8704, s0⟩, ⟨S8x8704, s1⟩, ⟨S8x8704, s2⟩, ⟨S8x8704, s3⟩, ⟨S8x8704, s4⟩,
      ⟨S8x8704, broadcast S8x8704 (Scalar.ofBits .bf16 0x3F80#16)⟩]
      concatenates_S8x8704_S8x8704_S8x8704_S8x8704_S8x8704_S8x8704_S48x8704_d0)
    (constant S128x8704 .f32 0x00000000#32)

/-- The first layer's activation. -/
def act1 (h : FVec F S128x8704 .f32) : FVec F S128x8704 .bf16 :=
  maximumf (truncf .bf16 h bitsLt_bf16_f32) (broadcast S128x8704 (Scalar.ofBits .bf16 0x0000#16))

/-- The columns from 256 on kept, the others made zero: the first chunk's two positions before the signal starts. -/
def keepFrom (h : FVec F S128x8704 .f32) : FVec F S128x8704 .f32 :=
  select (broadcastTo S128x8704
    (shapeCast S1x8704 (cmpi .sge (iota .tc S1x8704 32 [1] iota_S1x8704_d1_w32) (broadcast S1x8704 256#32))
      shapeCasts_S1x8704_S1x8704) broadcasts_S1x8704_S128x8704)
    h (broadcast S128x8704 (Scalar.ofBits .f32 0x00000000#32))

/-- The columns below 8448 kept, the others made zero: the last chunk's two positions after the signal ends. -/
def keepBelow (h : FVec F S128x8704 .f32) : FVec F S128x8704 .f32 :=
  select (broadcastTo S128x8704
    (shapeCast S1x8704 (cmpi .slt (iota .tc S1x8704 32 [1] iota_S1x8704_d1_w32) (broadcast S1x8704 8448#32))
      shapeCasts_S1x8704_S1x8704) broadcasts_S1x8704_S128x8704)
    h (broadcast S128x8704 (Scalar.ofBits .f32 0x00000000#32))

/-- The second layer with its activation: the block weights against five shifted windows of the first layer and a
    row of ones. -/
def act2 (w : FVec F S128x641 .bf16) (h : FVec F S128x8704 .bf16) : FVec F S128x8192 .f32 :=
  maximumf
    (matmul dot_S128x641_S641x8192_S128x8192_1_0_0_1_n_n none w
      (concatenate S641x8192 0
        [⟨S128x8192, extractStridedSlice S128x8192 ![0, 0] h slices_S128x8704_o0_0_S128x8192⟩,
         ⟨S128x8192, extractStridedSlice S128x8192 ![0, 128] h slices_S128x8704_o0_128_S128x8192⟩,
         ⟨S128x8192, extractStridedSlice S128x8192 ![0, 256] h slices_S128x8704_o0_256_S128x8192⟩,
         ⟨S128x8192, extractStridedSlice S128x8192 ![0, 384] h slices_S128x8704_o0_384_S128x8192⟩,
         ⟨S128x8192, extractStridedSlice S128x8192 ![0, 512] h slices_S128x8704_o0_512_S128x8192⟩,
         ⟨S1x8192, broadcast S1x8192 (Scalar.ofBits .bf16 0x3F80#16)⟩]
        concatenates_S128x8192_S128x8192_S128x8192_S128x8192_S128x8192_S1x8192_S641x8192_d0)
      (constant S128x8192 .f32 0x00000000#32))
    (broadcast S128x8192 (Scalar.ofBits .f32 0x00000000#32))

/-- Left half plus right half, 8192 columns to 4096. -/
def half1 (v : FVec F S128x8192 .f32) : FVec F S128x4096 .f32 :=
  addf (extractStridedSlice S128x4096 ![0, 0] v slices_S128x8192_o0_0_S128x4096)
    (extractStridedSlice S128x4096 ![0, 4096] v slices_S128x8192_o0_4096_S128x4096)
/-- Left half plus right half, 4096 columns to 2048. -/
def half2 (v : FVec F S128x4096 .f32) : FVec F S128x2048 .f32 :=
  addf (extractStridedSlice S128x2048 ![0, 0] v slices_S128x4096_o0_0_S128x2048)
    (extractStridedSlice S128x2048 ![0, 2048] v slices_S128x4096_o0_2048_S128x2048)
/-- Left half plus right half, 2048 columns to 1024. -/
def half3 (v : FVec F S128x2048 .f32) : FVec F S128x1024 .f32 :=
  addf (extractStridedSlice S128x1024 ![0, 0] v slices_S128x2048_o0_0_S128x1024)
    (extractStridedSlice S128x1024 ![0, 1024] v slices_S128x2048_o0_1024_S128x1024)
/-- Left half plus right half, 1024 columns to 512. -/
def half4 (v : FVec F S128x1024 .f32) : FVec F S128x512 .f32 :=
  addf (extractStridedSlice S128x512 ![0, 0] v slices_S128x1024_o0_0_S128x512)
    (extractStridedSlice S128x512 ![0, 512] v slices_S128x1024_o0_512_S128x512)
/-- Left half plus right half, 512 columns to 256. -/
def half5 (v : FVec F S128x512 .f32) : FVec F S128x256 .f32 :=
  addf (extractStridedSlice S128x256 ![0, 0] v slices_S128x512_o0_0_S128x256)
    (extractStridedSlice S128x256 ![0, 256] v slices_S128x512_o0_256_S128x256)
/-- Left half plus right half, 256 columns to 128. -/
def half6 (v : FVec F S128x256 .f32) : FVec F S128x128 .f32 :=
  addf (extractStridedSlice S128x128 ![0, 0] v slices_S128x256_o0_0_S128x128)
    (extractStridedSlice S128x128 ![0, 128] v slices_S128x256_o0_128_S128x128)

/-- The 64 positions of a chunk added up, by halving six times. -/
def tree (v : FVec F S128x8192 .f32) : FVec F S128x128 .f32 :=
  half6 (half5 (half4 (half3 (half2 (half1 v)))))

/-- The chunk's value from its first layer before activation. -/
def chunk (w2 : FVec F S128x641 .bf16) (h : FVec F S128x8704 .f32) : FVec F S128x128 .f32 :=
  tree (act2 w2 (act1 h))

/-- A window of 68 positions of the signal, starting at column `o`. -/
def win (v : FVec F S8x131072 .bf16) (o : ℕ) (h : S8x131072.Slices ![0, o] S8x8704) : FVec F S8x8704 .bf16 :=
  extractStridedSlice S8x8704 ![0, o] v h

/-- A window `k` positions further on than the first window of the inner chunk `n + 1` lies inside the signal. -/
theorem inner_slices (n : Fin 14) (k : Fin 5) :
    S8x131072.Slices ![0, 7680 + n.val * 8192 + k.val * 128] S8x8704 := by
  refine ⟨rfl, fun a => ?_⟩
  have := n.isLt
  have := k.isLt
  match a with
  | ⟨0, _⟩ => show 0 + 8 ≤ 8; omega
  | ⟨1, _⟩ => show 7680 + n.val * 8192 + k.val * 128 + 8704 ≤ 131072; omega

/-- The inner chunk `n + 1` (the chunks that touch neither end of the signal). -/
def inner (v : FVec F S8x131072 .bf16) (w1 : FVec F S128x48 .bf16) (w2 : FVec F S128x641 .bf16) (n : Fin 14) :
    FVec F S128x128 .f32 :=
  chunk w2 (pre1 w1 (win v _ (inner_slices n 0)) (win v _ (inner_slices n 1)) (win v _ (inner_slices n 2))
    (win v _ (inner_slices n 3)) (win v _ (inner_slices n 4)))

/-- The first chunk: its windows begin with zeros, and its first two positions are made zero. -/
def first (v : FVec F S8x131072 .bf16) (w1 : FVec F S128x48 .bf16) (w2 : FVec F S128x641 .bf16) :
    FVec F S128x128 .f32 :=
  chunk w2 (keepFrom (pre1 w1
    (concatenate S8x8704 1 [⟨S8x512, broadcast S8x512 (Scalar.ofBits .bf16 0x0000#16)⟩,
      ⟨S8x8192, extractStridedSlice S8x8192 ![0, 0] v slices_S8x131072_o0_0_S8x8192⟩] concatenates_S8x512_S8x8192_S8x8704_d1)
    (concatenate S8x8704 1 [⟨S8x384, broadcast S8x384 (Scalar.ofBits .bf16 0x0000#16)⟩,
      ⟨S8x8320, extractStridedSlice S8x8320 ![0, 0] v slices_S8x131072_o0_0_S8x8320⟩] concatenates_S8x384_S8x8320_S8x8704_d1)
    (concatenate S8x8704 1 [⟨S8x256, broadcast S8x256 (Scalar.ofBits .bf16 0x0000#16)⟩,
      ⟨S8x8448, extractStridedSlice S8x8448 ![0, 0] v slices_S8x131072_o0_0_S8x8448⟩] concatenates_S8x256_S8x8448_S8x8704_d1)
    (concatenate S8x8704 1 [⟨S8x128, broadcast S8x128 (Scalar.ofBits .bf16 0x0000#16)⟩,
      ⟨S8x8576, extractStridedSlice S8x8576 ![0, 0] v slices_S8x131072_o0_0_S8x8576⟩] concatenates_S8x128_S8x8576_S8x8704_d1)
    (win v 0 slices_S8x131072_o0_0_S8x8704)))

/-- The last chunk: its windows end with zeros, and its last two positions are made zero. -/
def last (v : FVec F S8x131072 .bf16) (w1 : FVec F S128x48 .bf16) (w2 : FVec F S128x641 .bf16) :
    FVec F S128x128 .f32 :=
  chunk w2 (keepBelow (pre1 w1
    (win v 122368 slices_S8x131072_o0_122368_S8x8704)
    (concatenate S8x8704 1 [⟨S8x8576, extractStridedSlice S8x8576 ![0, 122496] v slices_S8x131072_o0_122496_S8x8576⟩,
      ⟨S8x128, broadcast S8x128 (Scalar.ofBits .bf16 0x0000#16)⟩] concatenates_S8x8576_S8x128_S8x8704_d1)
    (concatenate S8x8704 1 [⟨S8x8448, extractStridedSlice S8x8448 ![0, 122624] v slices_S8x131072_o0_122624_S8x8448⟩,
      ⟨S8x256, broadcast S8x256 (Scalar.ofBits .bf16 0x0000#16)⟩] concatenates_S8x8448_S8x256_S8x8704_d1)
    (concatenate S8x8704 1 [⟨S8x8320, extractStridedSlice S8x8320 ![0, 122752] v slices_S8x131072_o0_122752_S8x8320⟩,
      ⟨S8x384, broadcast S8x384 (Scalar.ofBits .bf16 0x0000#16)⟩] concatenates_S8x8320_S8x384_S8x8704_d1)
    (concatenate S8x8704 1 [⟨S8x8192, extractStridedSlice S8x8192 ![0, 122880] v slices_S8x131072_o0_122880_S8x8192⟩,
      ⟨S8x512, broadcast S8x512 (Scalar.ofBits .bf16 0x0000#16)⟩] concatenates_S8x8192_S8x512_S8x8704_d1)))

/-- The four quarters of the signal, four chunks each: what the last layer multiplies. -/
def seg0 (v : FVec F S8x131072 .bf16) (w1 : FVec F S128x48 .bf16) (w2 : FVec F S128x641 .bf16) : FVec F S128x128 .f32 :=
  addf (addf (addf (first v w1 w2) (inner v w1 w2 0)) (inner v w1 w2 1)) (inner v w1 w2 2)
/-- The second quarter. -/
def seg1 (v : FVec F S8x131072 .bf16) (w1 : FVec F S128x48 .bf16) (w2 : FVec F S128x641 .bf16) : FVec F S128x128 .f32 :=
  addf (addf (addf (inner v w1 w2 3) (inner v w1 w2 4)) (inner v w1 w2 5)) (inner v w1 w2 6)
/-- The third quarter. -/
def seg2 (v : FVec F S8x131072 .bf16) (w1 : FVec F S128x48 .bf16) (w2 : FVec F S128x641 .bf16) : FVec F S128x128 .f32 :=
  addf (addf (addf (inner v w1 w2 7) (inner v w1 w2 8)) (inner v w1 w2 9)) (inner v w1 w2 10)
/-- The fourth quarter. -/
def seg3 (v : FVec F S8x131072 .bf16) (w1 : FVec F S128x48 .bf16) (w2 : FVec F S128x641 .bf16) : FVec F S128x128 .f32 :=
  addf (addf (addf (inner v w1 w2 11) (inner v w1 w2 12)) (inner v w1 w2 13)) (last v w1 w2)

/-- The last layer on the four quarters. -/
def finish (q0 q1 q2 q3 : FVec F S128x128 .f32) (x3 : FVec F S1x32x512 .f32) (x4 : FVec F S1x32x1 .f32) :
    FVec F S1x32x128 .f32 :=
  shapeCast S1x32x128
    (addf
      (matmul dot_S32x512_S512x128_S32x128_1_0_0_1_n_n none (shapeCast S32x512 x3 shapeCasts_S1x32x512_S32x512)
        (concatenate S512x128 0 [⟨S128x128, q0⟩, ⟨S128x128, q1⟩, ⟨S128x128, q2⟩, ⟨S128x128, q3⟩]
          concatenates_S128x128_S128x128_S128x128_S128x128_S512x128_d0)
        (constant S32x128 .f32 0x00000000#32))
      (broadcastTo S32x128 (shapeCast S32x1 x4 shapeCasts_S1x32x1_S32x1) broadcasts_S32x1_S32x128))
    shapeCasts_S32x128_S1x32x128

/-- What the body stores, from the contents of its five input blocks. -/
def body (x0 : FVec F S1x8x131072 .bf16) (x1 : FVec F S1x128x48 .bf16) (x2 : FVec F S1x128x641 .bf16)
    (x3 : FVec F S1x32x512 .f32) (x4 : FVec F S1x32x1 .f32) : FVec F S1x32x128 .f32 :=
  finish (seg0 (k0_pay2 x0) (k0_pay3 x1) (k0_pay4 x2)) (seg1 (k0_pay2 x0) (k0_pay3 x1) (k0_pay4 x2))
    (seg2 (k0_pay2 x0) (k0_pay3 x1) (k0_pay4 x2)) (seg3 (k0_pay2 x0) (k0_pay3 x1) (k0_pay4 x2)) x3 x4

/-- The body's stores are sixteen chunks and the last layer, whole. -/
theorem out_eq (x0 : Vec F S1x8x131072 .bf16) (x1 : Vec F S1x128x48 .bf16) (x2 : Vec F S1x128x641 .bf16)
    (x3 : Vec F S1x32x512 .f32) (x4 : Vec F S1x32x1 .f32) :
    out0_5 x0 x1 x2 x3 x4
      = View.canon [⟨r0_5, body (View.ld x0 r0_0) (View.ld x1 r0_1) (View.ld x2 r0_2) (View.ld x3 r0_3) (View.ld x4 r0_4)⟩] := by
  rfl

end Cert.KernelIdeal.Cnn

end
-- ==== Proof.Cnn.Spec.lean ====
/-
  The mathematics: one field's small convolution network on one row of the batch, over the extended reals.
  Nothing here mentions a program.
-/
module

public import Idealize.ShloMosaic.Lib.Pointwise

@[expose] public section

noncomputable section

namespace Cert.Cnn

/-- One field's network on one batch row: the signal, with four positions of zero padding before position 4 and
    from position 1028 on, and the weights and biases of the two convolution layers. -/
structure Net where
  /-- the padded signal -/
  x : ℕ → EReal
  /-- first layer's weights: channel, tap -/
  w1 : Fin 16 → Fin 5 → EReal
  /-- first layer's bias -/
  b1 : Fin 16 → EReal
  /-- second layer's weights: output channel, input channel, tap -/
  w2 : Fin 16 → Fin 16 → Fin 5 → EReal
  /-- second layer's bias -/
  b2 : Fin 16 → EReal

namespace Net

/-- The first layer at channel `i`, at position `s` of its own padded signal: positions 2 to 1025 are the layer's
    1024 values, the others are the second layer's zero padding. -/
def h1 (n : Net) (i : Fin 16) (s : ℕ) : EReal :=
  if 2 ≤ s ∧ s < 1026 then max ((∑ k : Fin 5, n.w1 i k * n.x (s + k.val)) + n.b1 i) 0 else 0

/-- The second layer at channel `o`, position `t`. -/
def h2 (n : Net) (o : Fin 16) (t : ℕ) : EReal :=
  max ((∑ k : Fin 5, ∑ i : Fin 16, n.w2 o i k * n.h1 i (t + k.val)) + n.b2 o) 0

/-- The sum of the second layer's channel `o` over the 256 positions of the quarter `e`. -/
def quarter (n : Net) (o : Fin 16) (e : ℕ) : EReal :=
  ∑ u : Fin 256, n.h2 o (e * 256 + u.val)

/-- The last layer: weights against the quarters' sums, and a bias. -/
def out (n : Net) (p : Fin 16 → Fin 4 → EReal) (q : EReal) : EReal :=
  (∑ e : Fin 4, ∑ i : Fin 16, p i e * n.quarter i e.val) + q

end Net

/-- A sum over `m * n` places is a sum over `m` blocks of `n` places. -/
theorem sum_blocks (m n : ℕ) (g : Fin (m * n) → EReal) :
    ∑ x, g x = ∑ k : Fin m, ∑ e : Fin n, g ⟨k.val * n + e.val, by
      have := k.isLt; have := e.isLt; nlinarith [Nat.mul_le_mul_right n (Nat.succ_le_of_lt k.isLt)]⟩ := by
  rw [← Equiv.sum_comp finProdFinEquiv, Fintype.sum_prod_type]
  refine Finset.sum_congr rfl fun k _ => Finset.sum_congr rfl fun e _ => congrArg g (Fin.ext ?_)
  show e.val + n * k.val = k.val * n + e.val
  rw [Nat.mul_comm, Nat.add_comm]

/-- A halving step: place `q` and place `m + q` added. -/
def step (m : ℕ) (g : ℕ → EReal) (q : ℕ) : EReal := g q + g (m + q)

/-- A sum over `2 m` places adds the places `q` and `m + q`. -/
theorem sum_halves (m : ℕ) (g : ℕ → EReal) : ∑ q : Fin (2 * m), g q.val = ∑ q : Fin m, step m g q.val := by
  rw [Fin.sum_univ_eq_sum_range g, Fin.sum_univ_eq_sum_range (step m g), Nat.two_mul, Finset.sum_range_add,
    ← Finset.sum_add_distrib]
  rfl

/-- Six halving steps add 64 places. -/
theorem sum_steps (g : ℕ → EReal) :
    ∑ q : Fin 64, g q.val = step 1 (step 2 (step 4 (step 8 (step 16 (step 32 g))))) 0 :=
  (sum_halves 32 g).trans ((sum_halves 16 _).trans ((sum_halves 8 _).trans ((sum_halves 4 _).trans
    ((sum_halves 2 _).trans ((sum_halves 1 _).trans (Fin.sum_univ_one _))))))

/-- A sum against weights that are zero except at one place keeps that place only. -/
theorem sum_diag (n : ℕ) (a : Fin n) (w : EReal) (g : Fin n → EReal) :
    ∑ e : Fin n, (if e = a then w else 0) * g e = w * g a := by
  rw [Finset.sum_eq_single a]
  · rw [if_pos rfl]
  · intro e _ he
    rw [if_neg he, zero_mul]
  · intro h
    exact absurd (Finset.mem_univ a) h

/-- Six pieces laid end to end, the first five of length `n`: the value at place `x`. -/
def pieces {α : Type} (n : ℕ) (G : Fin 5 → Fin n → α) (z : α) (x : ℕ) : α :=
  if h : x < n then G 0 ⟨x, h⟩
  else if h : x - n < n then G 1 ⟨x - n, h⟩
  else if h : x - n - n < n then G 2 ⟨x - n - n, h⟩
  else if h : x - n - n - n < n then G 3 ⟨x - n - n - n, h⟩
  else if h : x - n - n - n - n < n then G 4 ⟨x - n - n - n - n, h⟩
  else z

/-- Place `k n + e` is place `e` of piece `k`. -/
theorem pieces_at {α : Type} (n : ℕ) (G : Fin 5 → Fin n → α) (z : α) (k : Fin 5) (e : Fin n) :
    pieces n G z (k.val * n + e.val) = G k e := by
  have he := e.isLt
  unfold pieces
  match k with
  | 0 =>
    rw [dif_pos (by show 0 * n + e.val < n; omega)]
    exact congrArg (G 0) (Fin.ext (by show 0 * n + e.val = e.val; omega))
  | 1 =>
    rw [dif_neg (by show ¬1 * n + e.val < n; omega), dif_pos (by show 1 * n + e.val - n < n; omega)]
    exact congrArg (G 1) (Fin.ext (by show 1 * n + e.val - n = e.val; omega))
  | 2 =>
    rw [dif_neg (by show ¬2 * n + e.val < n; omega), dif_neg (by show ¬2 * n + e.val - n < n; omega),
      dif_pos (by show 2 * n + e.val - n - n < n; omega)]
    exact congrArg (G 2) (Fin.ext (by show 2 * n + e.val - n - n = e.val; omega))
  | 3 =>
    rw [dif_neg (by show ¬3 * n + e.val < n; omega), dif_neg (by show ¬3 * n + e.val - n < n; omega),
      dif_neg (by show ¬3 * n + e.val - n - n < n; omega), dif_pos (by show 3 * n + e.val - n - n - n < n; omega)]
    exact congrArg (G 3) (Fin.ext (by show 3 * n + e.val - n - n - n = e.val; omega))
  | 4 =>
    rw [dif_neg (by show ¬4 * n + e.val < n; omega), dif_neg (by show ¬4 * n + e.val - n < n; omega),
      dif_neg (by show ¬4 * n + e.val - n - n < n; omega), dif_neg (by show ¬4 * n + e.val - n - n - n < n; omega),
      dif_pos (by show 4 * n + e.val - n - n - n - n < n; omega)]
    exact congrArg (G 4) (Fin.ext (by show 4 * n + e.val - n - n - n - n = e.val; omega))

/-- From place `5 n` on stands the sixth piece. -/
theorem pieces_last {α : Type} (n : ℕ) (G : Fin 5 → Fin n → α) (z : α) (x : ℕ) (h : 5 * n ≤ x) (hn : 0 < n) :
    pieces n G z x = z := by
  unfold pieces
  rw [dif_neg (by omega), dif_neg (by omega), dif_neg (by omega), dif_neg (by omega), dif_neg (by omega)]

end Cert.Cnn

end
-- ==== Proof.Cnn.Layer.lean ====
/-
  One chunk read at an index over the extended reals: with block-diagonal weights, field `f` of the group sees its
  own windows only, and the chunk's value is the sum of 64 positions of the second layer.
-/
module

public import proofs.«01_k».proof.Proof.Cnn.Chunk
public import proofs.«01_k».proof.Proof.Cnn.Spec

@[expose] public section

set_option maxRecDepth 16384

noncomputable section

namespace Cert.KernelIdeal.Cnn

open Cert.KernelIdeal Cert.KernelIdeal.Gen Idealize.ShloMosaic Idealize.SL.Sem Cert.Cnn

/-- Row of field `f`, channel `i` in a group's 128 rows. -/
def row (f : Fin 8) (i : Fin 16) : Fin 128 := ⟨f.val * 16 + i.val, by omega⟩

/-- Column of position `p`, batch row `b` in a window of 68 positions. -/
def col (p : Fin 68) (b : Fin 128) : Fin 8704 := ⟨p.val * 128 + b.val, by omega⟩

/-- Column of position `p`, batch row `b` in a chunk of 64 positions. -/
def col64 (p : Fin 64) (b : Fin 128) : Fin 8192 := ⟨p.val * 128 + b.val, by omega⟩

/-- The first layer's product at an index: five windows of eight fields, and the row of ones. -/
theorem pre1_apply (w : FVec Ideal S128x48 .bf16) (s0 s1 s2 s3 s4 : FVec Ideal S8x8704 .bf16) (r : Fin 128)
    (j : Fin 8704) :
    pre1 w s0 s1 s2 s3 s4 (ix2 r j)
      = (∑ k : Fin 5, ∑ e : Fin 8, w (ix2 r ⟨k.val * 8 + e.val, by omega⟩)
          * (![s0, s1, s2, s3, s4] k : FVec Ideal S8x8704 .bf16) (ix2 e j))
        + ∑ e : Fin 8, w (ix2 r ⟨40 + e.val, by omega⟩) := by
  pointwise [pre1]
  rw [sum_blocks 6 8, Fin.sum_univ_castSucc]
  refine congrArg₂ (· + ·) (Finset.sum_congr rfl fun k _ => Finset.sum_congr rfl fun e _ => ?_)
    (Finset.sum_congr rfl fun e _ => ?_)
  · exact congrArg (w (ix2 r ⟨k.val * 8 + e.val, by omega⟩) * ·)
      (pieces_at 8 (fun k e => (![s0, s1, s2, s3, s4] k : FVec Ideal S8x8704 .bf16) (ix2 e j)) 1 k e)
  · exact (congrArg (w (ix2 r ⟨40 + e.val, by omega⟩) * ·)
      (pieces_last 8 (fun k e => (![s0, s1, s2, s3, s4] k : FVec Ideal S8x8704 .bf16) (ix2 e j)) 1 (40 + e.val)
        (by omega) (by omega))).trans (mul_one _)

/-- The five windows of the first layer that the second layer reads, at column `j`: window `k` is 128 `k` columns on. -/
def taps (h : FVec Ideal S128x8704 .bf16) (j : Fin 8192) : Fin 5 → Fin 128 → EReal :=
  ![fun m => h (ix2 m ⟨j.val, by omega⟩), fun m => h (ix2 m ⟨128 + j.val, by omega⟩),
    fun m => h (ix2 m ⟨256 + j.val, by omega⟩), fun m => h (ix2 m ⟨384 + j.val, by omega⟩),
    fun m => h (ix2 m ⟨512 + j.val, by omega⟩)]

/-- Window `k` at position `p` is the first layer at position `p + k`. -/
theorem taps_apply (h : FVec Ideal S128x8704 .bf16) (p : Fin 64) (b : Fin 128) (k : Fin 5) (m : Fin 128) :
    taps h (col64 p b) k m = h (ix2 m (col ⟨p.val + k.val, by omega⟩ b)) := by
  match k with
  | 0 => exact congrArg h (congrArg (ix2 m) (Fin.ext (by show p.val * 128 + b.val = (p.val + 0) * 128 + b.val; omega)))
  | 1 => exact congrArg h (congrArg (ix2 m) (Fin.ext (by show 128 + (p.val * 128 + b.val) = (p.val + 1) * 128 + b.val; omega)))
  | 2 => exact congrArg h (congrArg (ix2 m) (Fin.ext (by show 256 + (p.val * 128 + b.val) = (p.val + 2) * 128 + b.val; omega)))
  | 3 => exact congrArg h (congrArg (ix2 m) (Fin.ext (by show 384 + (p.val * 128 + b.val) = (p.val + 3) * 128 + b.val; omega)))
  | 4 => exact congrArg h (congrArg (ix2 m) (Fin.ext (by show 512 + (p.val * 128 + b.val) = (p.val + 4) * 128 + b.val; omega)))

/-- The second layer's product at an index, over the windows laid end to end. -/
theorem act2_pieces (w : FVec Ideal S128x641 .bf16) (h : FVec Ideal S128x8704 .bf16) (r : Fin 128) (j : Fin 8192) :
    act2 w h (ix2 r j) = max (∑ x : Fin 641, w (ix2 r x) * pieces 128 (taps h j) 1 x.val) 0 := by
  pointwise [act2]
  rfl

/-- The second layer at an index: five windows of 128 rows of the first layer, and the row of ones. -/
theorem act2_apply (w : FVec Ideal S128x641 .bf16) (h : FVec Ideal S128x8704 .bf16) (r : Fin 128) (p : Fin 64)
    (b : Fin 128) :
    act2 w h (ix2 r (col64 p b))
      = max ((∑ k : Fin 5, ∑ e : Fin 8, ∑ i : Fin 16, w (ix2 r ⟨k.val * 128 + (row e i).val, by omega⟩)
          * h (ix2 (row e i) (col ⟨p.val + k.val, by omega⟩ b)))
        + w (ix2 r ⟨640, by omega⟩)) 0 := by
  rw [act2_pieces, Fin.sum_univ_castSucc]
  refine congrArg (max · 0) (congrArg₂ (· + ·) ?_ ?_)
  · rw [sum_blocks 5 128]
    refine Finset.sum_congr rfl fun k _ => ?_
    rw [sum_blocks 8 16]
    refine Finset.sum_congr rfl fun e _ => Finset.sum_congr rfl fun i _ => ?_
    rw [← taps_apply h p b k, ← pieces_at 128 (taps h (col64 p b)) 1 k (row e i)]
    rfl
  · rw [pieces_last 128 _ _ _ (by show 5 * 128 ≤ 640; omega) (by omega), mul_one]
    rfl

/-- A halving step at an index, with the columns counted by position: position `q` and position `m + q`. -/
theorem half1_apply (v : FVec Ideal S128x8192 .f32) (r : Fin 128) (j : Fin 4096) :
    half1 v (ix2 r j) = v (ix2 r ⟨j.val, by omega⟩) + v (ix2 r ⟨4096 + j.val, by omega⟩) := by
  pointwise [half1]
/-- The second halving step at an index. -/
theorem half2_apply (v : FVec Ideal S128x4096 .f32) (r : Fin 128) (j : Fin 2048) :
    half2 v (ix2 r j) = v (ix2 r ⟨j.val, by omega⟩) + v (ix2 r ⟨2048 + j.val, by omega⟩) := by
  pointwise [half2]
/-- The third halving step at an index. -/
theorem half3_apply (v : FVec Ideal S128x2048 .f32) (r : Fin 128) (j : Fin 1024) :
    half3 v (ix2 r j) = v (ix2 r ⟨j.val, by omega⟩) + v (ix2 r ⟨1024 + j.val, by omega⟩) := by
  pointwise [half3]
/-- The fourth halving step at an index. -/
theorem half4_apply (v : FVec Ideal S128x1024 .f32) (r : Fin 128) (j : Fin 512) :
    half4 v (ix2 r j) = v (ix2 r ⟨j.val, by omega⟩) + v (ix2 r ⟨512 + j.val, by omega⟩) := by
  pointwise [half4]
/-- The fifth halving step at an index. -/
theorem half5_apply (v : FVec Ideal S128x512 .f32) (r : Fin 128) (j : Fin 256) :
    half5 v (ix2 r j) = v (ix2 r ⟨j.val, by omega⟩) + v (ix2 r ⟨256 + j.val, by omega⟩) := by
  pointwise [half5]
/-- The sixth halving step at an index. -/
theorem half6_apply (v : FVec Ideal S128x256 .f32) (r : Fin 128) (j : Fin 128) :
    half6 v (ix2 r j) = v (ix2 r ⟨j.val, by omega⟩) + v (ix2 r ⟨128 + j.val, by omega⟩) := by
  pointwise [half6]

/-- Six halvings add the 64 positions: if `v` at position `q` is `g q`, the tree is the sum of the `g q`. -/
theorem tree_apply (v : FVec Ideal S128x8192 .f32) (r b : Fin 128) (g : ℕ → EReal)
    (hv : ∀ q : Fin 64, v (ix2 r (col64 q b)) = g q.val) : tree v (ix2 r b) = ∑ q : Fin 64, g q.val := by
  have h0 : ∀ (j : Fin 8192) (q : ℕ), q < 64 → j.val = q * 128 + b.val → v (ix2 r j) = g q := fun j q hq hj =>
    (congrArg v (congrArg (ix2 r) (Fin.ext (by rw [hj]; rfl)))).trans (hv ⟨q, hq⟩)
  have h1 : ∀ (j : Fin 4096) (q : ℕ), q < 32 → j.val = q * 128 + b.val → half1 v (ix2 r j) = step 32 g q :=
    fun j q hq hj => by
      rw [half1_apply, h0 _ q (by omega) hj, h0 _ (32 + q) (by omega) (by show 4096 + j.val = _; omega)]; rfl
  have h2 : ∀ (j : Fin 2048) (q : ℕ), q < 16 → j.val = q * 128 + b.val →
      half2 (half1 v) (ix2 r j) = step 16 (step 32 g) q := fun j q hq hj => by
    rw [half2_apply, h1 _ q (by omega) hj, h1 _ (16 + q) (by omega) (by show 2048 + j.val = _; omega)]; rfl
  have h3 : ∀ (j : Fin 1024) (q : ℕ), q < 8 → j.val = q * 128 + b.val →
      half3 (half2 (half1 v)) (ix2 r j) = step 8 (step 16 (step 32 g)) q := fun j q hq hj => by
    rw [half3_apply, h2 _ q (by omega) hj, h2 _ (8 + q) (by omega) (by show 1024 + j.val = _; omega)]; rfl
  have h4 : ∀ (j : Fin 512) (q : ℕ), q < 4 → j.val = q * 128 + b.val →
      half4 (half3 (half2 (half1 v))) (ix2 r j) = step 4 (step 8 (step 16 (step 32 g))) q := fun j q hq hj => by
    rw [half4_apply, h3 _ q (by omega) hj, h3 _ (4 + q) (by omega) (by show 512 + j.val = _; omega)]; rfl
  have h5 : ∀ (j : Fin 256) (q : ℕ), q < 2 → j.val = q * 128 + b.val →
      half5 (half4 (half3 (half2 (half1 v)))) (ix2 r j) = step 2 (step 4 (step 8 (step 16 (step 32 g)))) q :=
    fun j q hq hj => by
      rw [half5_apply, h4 _ q (by omega) hj, h4 _ (2 + q) (by omega) (by show 256 + j.val = _; omega)]; rfl
  rw [sum_steps]
  unfold tree
  rw [half6_apply, h5 _ 0 (by omega) (by show b.val = _; omega), h5 _ 1 (by omega) (by show 128 + b.val = _; omega)]
  rfl

/-- The weights of one group's two convolution layers as the kernel's two block arrays hold them: a field's weights
    on its own rows, zeros elsewhere, the biases in a column of their own. -/
structure Weights (w1 : FVec Ideal S128x48 .bf16) (w2 : FVec Ideal S128x641 .bf16) (n : Fin 8 → Fin 128 → Net) :
    Prop where
  /-- the first layer's weights -/
  first : ∀ f b i (k : Fin 5) (e : Fin 8), w1 (ix2 (row f i) ⟨k.val * 8 + e.val, by omega⟩)
    = if e = f then (n f b).w1 i k else 0
  /-- the first layer's bias -/
  bias1 : ∀ f b i (e : Fin 8), w1 (ix2 (row f i) ⟨40 + e.val, by omega⟩) = if e = 0 then (n f b).b1 i else 0
  /-- the second layer's weights -/
  second : ∀ f b o (k : Fin 5) (e : Fin 8) i, w2 (ix2 (row f o) ⟨k.val * 128 + (row e i).val, by omega⟩)
    = if e = f then (n f b).w2 o i k else 0
  /-- the second layer's bias -/
  bias2 : ∀ f b o, w2 (ix2 (row f o) ⟨640, by omega⟩) = (n f b).b2 o

variable {w1 : FVec Ideal S128x48 .bf16} {w2 : FVec Ideal S128x641 .bf16} {n : Fin 8 → Fin 128 → Net}

/-- The first layer's product with the block weights: field `f` reads its own rows of the windows. -/
theorem pre1_net (hw : Weights w1 w2 n) (s0 s1 s2 s3 s4 : FVec Ideal S8x8704 .bf16) (f : Fin 8) (b : Fin 128)
    (i : Fin 16) (j : Fin 8704) :
    pre1 w1 s0 s1 s2 s3 s4 (ix2 (row f i) j)
      = (∑ k : Fin 5, (n f b).w1 i k * (![s0, s1, s2, s3, s4] k : FVec Ideal S8x8704 .bf16) (ix2 f j))
        + (n f b).b1 i := by
  rw [pre1_apply]
  refine congrArg₂ (· + ·) (Finset.sum_congr rfl fun k _ => ?_) ?_
  · rw [← sum_diag 8 f ((n f b).w1 i k) fun e => (![s0, s1, s2, s3, s4] k : FVec Ideal S8x8704 .bf16) (ix2 e j)]
    exact Finset.sum_congr rfl fun e _ => by rw [hw.first f b i k e]
  · have h := sum_diag 8 0 ((n f b).b1 i) fun _ => 1
    rw [mul_one] at h
    rw [← h]
    exact Finset.sum_congr rfl fun e _ => by rw [hw.bias1 f b i e, mul_one]

/-- A chunk's value: if its activated first layer is the network's at positions `c` to `c + 67`, the chunk is the
    sum of the second layer over positions `c` to `c + 63`. -/
theorem chunk_net (hw : Weights w1 w2 n) (h : FVec Ideal S128x8704 .f32) (c : ℕ)
    (hh : ∀ f b i (p : Fin 68), act1 h (ix2 (row f i) (col p b)) = (n f b).h1 i (c + p.val))
    (f : Fin 8) (b : Fin 128) (o : Fin 16) :
    chunk w2 h (ix2 (row f o) b) = ∑ q : Fin 64, (n f b).h2 o (c + q.val) := by
  refine tree_apply _ _ _ (fun q => (n f b).h2 o (c + q)) fun q => ?_
  rw [act2_apply]
  unfold Net.h2
  refine congrArg (max · 0) (congrArg₂ (· + ·) (Finset.sum_congr rfl fun k _ => ?_) (hw.bias2 f b o))
  rw [Finset.sum_comm]
  refine Finset.sum_congr rfl fun i _ => ?_
  rw [Nat.add_assoc, ← hh f b i ⟨q.val + k.val, by omega⟩,
    ← sum_diag 8 f ((n f b).w2 o i k) fun e => act1 h (ix2 (row e i) (col ⟨q.val + k.val, by omega⟩ b))]
  exact Finset.sum_congr rfl fun e _ => by rw [hw.second f b o k e i]

end Cert.KernelIdeal.Cnn

end
-- ==== Proof.Cnn.Windows.lean ====
/-
  The sixteen chunks over the extended reals: the inner chunks' windows lie inside the signal, the first and the last
  chunk's reach over an end, where zeros stand. Each chunk is the sum of its 64 positions, and each quarter of the
  signal the sum of its 256.
-/
module

public import proofs.«01_k».proof.Proof.Cnn.Layer
public import Idealize.ShloMosaic.Lib.Tactic.WordOmega

@[expose] public section

set_option maxRecDepth 16384

noncomputable section

namespace Cert.KernelIdeal.Cnn

open Cert.KernelIdeal Cert.KernelIdeal.Gen Idealize.ShloMosaic Idealize.SL.Sem Cert.Cnn

/-- The group's signal as the kernel's block holds it: time by batch row in one axis, and the padding's zeros. -/
structure Signal (v : FVec Ideal S8x131072 .bf16) (n : Fin 8 → Fin 128 → Net) : Prop where
  /-- time `t` stands at position `t + 4` of the padded signal -/
  inside : ∀ f b (t : Fin 1024), v (ix2 f ⟨t.val * 128 + b.val, by omega⟩) = (n f b).x (t.val + 4)
  /-- four zeros before it -/
  before : ∀ f b s, s < 4 → (n f b).x s = 0
  /-- zeros after it -/
  after : ∀ f b s, 1028 ≤ s → (n f b).x s = 0

variable {v : FVec Ideal S8x131072 .bf16} {w1 : FVec Ideal S128x48 .bf16} {w2 : FVec Ideal S128x641 .bf16}
  {n : Fin 8 → Fin 128 → Net}

/-- The signal read at a column, in terms of the position it holds. -/
theorem Signal.read (hv : Signal v n) (f : Fin 8) (b : Fin 128) (j : Fin 131072) (s : ℕ) (h4 : 4 ≤ s)
    (hj : j.val + 512 = s * 128 + b.val) : v (ix2 f j) = (n f b).x s := by
  have hs : s - 4 < 1024 := by omega
  have h := hv.inside f b ⟨s - 4, hs⟩
  rw [show (⟨s - 4, hs⟩ : Fin 1024).val + 4 = s from Nat.sub_add_cancel h4] at h
  rw [← h]
  exact congrArg v (congrArg (ix2 f) (Fin.ext (by show j.val = (s - 4) * 128 + b.val; omega)))

/-- The window `s` holds the network's padded signal from position `c + k` on. -/
def Window (n : Fin 8 → Fin 128 → Net) (c k : ℕ) (s : FVec Ideal S8x8704 .bf16) : Prop :=
  ∀ (f : Fin 8) (b : Fin 128) (p : Fin 68), s (ix2 f (col p b)) = (n f b).x (c + p.val + k)

/-- The first layer over five such windows, before activation and masking. -/
theorem pre1_windows (hw : Weights w1 w2 n) (c : ℕ) {s0 s1 s2 s3 s4 : FVec Ideal S8x8704 .bf16}
    (h0 : Window n c 0 s0) (h1 : Window n c 1 s1) (h2 : Window n c 2 s2) (h3 : Window n c 3 s3)
    (h4 : Window n c 4 s4) (f : Fin 8) (b : Fin 128) (i : Fin 16) (p : Fin 68) :
    pre1 w1 s0 s1 s2 s3 s4 (ix2 (row f i) (col p b))
      = (∑ k : Fin 5, (n f b).w1 i k * (n f b).x (c + p.val + k.val)) + (n f b).b1 i := by
  rw [pre1_net hw s0 s1 s2 s3 s4 f b]
  refine congrArg (· + (n f b).b1 i) (Finset.sum_congr rfl fun k _ => congrArg ((n f b).w1 i k * ·) ?_)
  match k with
  | 0 => exact h0 f b p
  | 1 => exact h1 f b p
  | 2 => exact h2 f b p
  | 3 => exact h3 f b p
  | 4 => exact h4 f b p

/-- A window at an index. -/
theorem win_apply (v : FVec Ideal S8x131072 .bf16) (o : ℕ) (h : S8x131072.Slices ![0, o] S8x8704) (f : Fin 8)
    (j : Fin 8704) (hj : o + j.val < 131072) : win v o h (ix2 f j) = v (ix2 f ⟨o + j.val, hj⟩) := by
  pointwise [win]

/-- The first layer's activation at an index. -/
theorem act1_apply (h : FVec Ideal S128x8704 .f32) (r : Fin 128) (j : Fin 8704) :
    act1 h (ix2 r j) = max (h (ix2 r j)) 0 := by
  pointwise [act1]

/-- An inner chunk is the sum of its 64 positions. -/
theorem inner_net (hw : Weights w1 w2 n) (hv : Signal v n) (m : Fin 14) (f : Fin 8) (b : Fin 128) (o : Fin 16) :
    inner v w1 w2 m (ix2 (row f o) b) = ∑ q : Fin 64, (n f b).h2 o ((m.val + 1) * 64 + q.val) := by
  have hm := m.isLt
  refine chunk_net hw _ _ (fun f b i p => ?_) f b o
  have hp := p.isLt
  have hwin : ∀ k : Fin 5, Window n ((m.val + 1) * 64) k.val (win v _ (inner_slices m k)) := by
    intro k f b p
    have hk := k.isLt
    have hp := p.isLt
    have hb := b.isLt
    have hc : (col p b).val = p.val * 128 + b.val := rfl
    rw [win_apply v _ _ f (col p b) (by omega)]
    exact hv.read f b _ _ (by omega) (by dsimp only; omega)
  have h := pre1_windows hw _ (hwin 0) (hwin 1) (hwin 2) (hwin 3) (hwin 4) f b i p
  exact (act1_apply _ _ _).trans (by rw [h, Net.h1, if_pos ⟨by omega, by omega⟩])

/-- The first chunk's mask at an index. -/
theorem keepFrom_apply (h : FVec Ideal S128x8704 .f32) (r : Fin 128) (j : Fin 8704) :
    keepFrom h (ix2 r j) = if 256 ≤ j.val then h (ix2 r j) else 0 := by
  pointwise [keepFrom]
  have hj := j.isLt
  by_cases hc : 256 ≤ j.val
  · rw [if_pos hc, show IntOp.cmpi CmpIPredicate.sge (BitVec.ofNat 32 j.val) 256#32 = 1#1 by word_omega]
    rfl
  · rw [if_neg hc, show IntOp.cmpi CmpIPredicate.sge (BitVec.ofNat 32 j.val) 256#32 = 0#1 by word_omega]
    rfl

/-- The last chunk's mask at an index. -/
theorem keepBelow_apply (h : FVec Ideal S128x8704 .f32) (r : Fin 128) (j : Fin 8704) :
    keepBelow h (ix2 r j) = if j.val < 8448 then h (ix2 r j) else 0 := by
  pointwise [keepBelow]
  have hj := j.isLt
  by_cases hc : j.val < 8448
  · rw [if_pos hc, show IntOp.cmpi CmpIPredicate.slt (BitVec.ofNat 32 j.val) 8448#32 = 1#1 by word_omega]
    rfl
  · rw [if_neg hc, show IntOp.cmpi CmpIPredicate.slt (BitVec.ofNat 32 j.val) 8448#32 = 0#1 by word_omega]
    rfl

/-- `z` columns of zeros and then the signal's beginning: the network's padded signal from position `k` on. -/
theorem zeros_left (hv : Signal v n) (z k : ℕ) (hz : z + 128 * k = 512) (f : Fin 8) (b : Fin 128) (p : Fin 68) :
    (if h : (col p b).val < z then (0 : EReal) else v (ix2 f ⟨(col p b).val - z, by omega⟩))
      = (n f b).x (0 + p.val + k) := by
  have hp := p.isLt
  have hb := b.isLt
  have hc : (col p b).val = p.val * 128 + b.val := rfl
  by_cases h : (col p b).val < z
  · rw [dif_pos h, hv.before f b _ (by omega)]
  · rw [dif_neg h]
    exact hv.read f b _ _ (by omega) (by dsimp only; omega)

/-- The signal's end and then columns of zeros: the network's padded signal from position `960 + k` on. -/
theorem zeros_right (hv : Signal v n) (z o k : ℕ) (hz : z + 128 * k = 8704) (ho : o = 122368 + 128 * k) (f : Fin 8)
    (b : Fin 128) (p : Fin 68) :
    (if h : (col p b).val < z then v (ix2 f ⟨o + (col p b).val, by omega⟩) else (0 : EReal))
      = (n f b).x (960 + p.val + k) := by
  have hp := p.isLt
  have hb := b.isLt
  have hc : (col p b).val = p.val * 128 + b.val := rfl
  by_cases h : (col p b).val < z
  · rw [dif_pos h]
    exact hv.read f b _ _ (by omega) (by dsimp only; omega)
  · rw [dif_neg h, hv.after f b _ (by omega)]

/-- The first chunk is the sum of its 64 positions. -/
theorem first_net (hw : Weights w1 w2 n) (hv : Signal v n) (f : Fin 8) (b : Fin 128) (o : Fin 16) :
    first v w1 w2 (ix2 (row f o) b) = ∑ q : Fin 64, (n f b).h2 o (0 + q.val) := by
  refine chunk_net hw _ _ (fun f b i p => ?_) f b o
  have hp := p.isLt
  have hb := b.isLt
  have hc : (col p b).val = p.val * 128 + b.val := rfl
  rw [act1_apply, keepFrom_apply, pre1_windows hw 0
    (fun f b p => Eq.trans (by pointwise) (zeros_left hv 512 0 rfl f b p))
    (fun f b p => Eq.trans (by pointwise) (zeros_left hv 384 1 rfl f b p))
    (fun f b p => Eq.trans (by pointwise) (zeros_left hv 256 2 rfl f b p))
    (fun f b p => Eq.trans (by pointwise) (zeros_left hv 128 3 rfl f b p))
    (fun f b p => (win_apply v 0 _ f (col p b) (by omega)).trans
      (hv.read f b _ _ (by omega) (by show 0 + (p.val * 128 + b.val) + 512 = (0 + p.val + 4) * 128 + b.val; omega)))
    f b i p]
  unfold Net.h1
  by_cases h2 : 2 ≤ p.val
  · rw [if_pos (by omega), if_pos ⟨by omega, by omega⟩]
  · rw [if_neg (by omega), if_neg (by omega), max_self]

/-- The last chunk is the sum of its 64 positions. -/
theorem last_net (hw : Weights w1 w2 n) (hv : Signal v n) (f : Fin 8) (b : Fin 128) (o : Fin 16) :
    last v w1 w2 (ix2 (row f o) b) = ∑ q : Fin 64, (n f b).h2 o (960 + q.val) := by
  refine chunk_net hw _ _ (fun f b i p => ?_) f b o
  have hp := p.isLt
  have hb := b.isLt
  have hc : (col p b).val = p.val * 128 + b.val := rfl
  rw [act1_apply, keepBelow_apply, pre1_windows hw 960
    (fun f b p => (win_apply v 122368 _ f (col p b) (by omega)).trans
      (hv.read f b _ _ (by omega) (by show 122368 + (p.val * 128 + b.val) + 512 = (960 + p.val + 0) * 128 + b.val; omega)))
    (fun f b p => Eq.trans (by pointwise) (zeros_right hv 8576 122496 1 rfl rfl f b p))
    (fun f b p => Eq.trans (by pointwise) (zeros_right hv 8448 122624 2 rfl rfl f b p))
    (fun f b p => Eq.trans (by pointwise) (zeros_right hv 8320 122752 3 rfl rfl f b p))
    (fun f b p => Eq.trans (by pointwise) (zeros_right hv 8192 122880 4 rfl rfl f b p))
    f b i p]
  unfold Net.h1
  by_cases h2 : p.val < 66
  · rw [if_pos (by omega), if_pos ⟨by omega, by omega⟩]
  · rw [if_neg (by omega), if_neg (by omega), max_self]

/-- A quarter's 256 positions in four chunks of 64. -/
theorem quarter_eq (n : Net) (o : Fin 16) (e : ℕ) :
    n.quarter o e = (∑ q : Fin 64, n.h2 o ((4 * e + 0) * 64 + q.val)) + (∑ q : Fin 64, n.h2 o ((4 * e + 1) * 64 + q.val))
      + (∑ q : Fin 64, n.h2 o ((4 * e + 2) * 64 + q.val)) + ∑ q : Fin 64, n.h2 o ((4 * e + 3) * 64 + q.val) := by
  unfold Net.quarter
  rw [show (∑ u : Fin 256, n.h2 o (e * 256 + u.val)) = _ from sum_blocks 4 64 fun u => n.h2 o (e * 256 + u.val),
    Fin.sum_univ_four]
  refine congrArg₂ (· + ·) (congrArg₂ (· + ·) (congrArg₂ (· + ·) ?_ ?_) ?_) ?_ <;>
    refine Finset.sum_congr rfl fun q _ => congrArg (n.h2 o) ?_
  · show e * 256 + (0 * 64 + q.val) = _; ring
  · show e * 256 + (1 * 64 + q.val) = _; ring
  · show e * 256 + (2 * 64 + q.val) = _; ring
  · show e * 256 + (3 * 64 + q.val) = _; ring

/-- The first quarter at an index. -/
theorem seg0_net (hw : Weights w1 w2 n) (hv : Signal v n) (f : Fin 8) (b : Fin 128) (o : Fin 16) :
    seg0 v w1 w2 (ix2 (row f o) b) = (n f b).quarter o 0 := by
  pointwise [seg0]
  rw [first_net hw hv, inner_net hw hv, inner_net hw hv, inner_net hw hv, quarter_eq]
  rfl
/-- The second quarter at an index. -/
theorem seg1_net (hw : Weights w1 w2 n) (hv : Signal v n) (f : Fin 8) (b : Fin 128) (o : Fin 16) :
    seg1 v w1 w2 (ix2 (row f o) b) = (n f b).quarter o 1 := by
  pointwise [seg1]
  rw [inner_net hw hv, inner_net hw hv, inner_net hw hv, inner_net hw hv, quarter_eq]
  rfl
/-- The third quarter at an index. -/
theorem seg2_net (hw : Weights w1 w2 n) (hv : Signal v n) (f : Fin 8) (b : Fin 128) (o : Fin 16) :
    seg2 v w1 w2 (ix2 (row f o) b) = (n f b).quarter o 2 := by
  pointwise [seg2]
  rw [inner_net hw hv, inner_net hw hv, inner_net hw hv, inner_net hw hv, quarter_eq]
  rfl
/-- The fourth quarter at an index. -/
theorem seg3_net (hw : Weights w1 w2 n) (hv : Signal v n) (f : Fin 8) (b : Fin 128) (o : Fin 16) :
    seg3 v w1 w2 (ix2 (row f o) b) = (n f b).quarter o 3 := by
  pointwise [seg3]
  rw [inner_net hw hv, inner_net hw hv, inner_net hw hv, last_net hw hv, quarter_eq]
  rfl

/-- The rows of the four quarters laid end to end. -/
def rows4 (q0 q1 q2 q3 : FVec Ideal S128x128 .f32) (b : Fin 128) (x : Fin 512) : EReal :=
  if h : x.val < 128 then q0 (ix2 ⟨x.val, h⟩ b)
  else if h : x.val - 128 < 128 then q1 (ix2 ⟨x.val - 128, h⟩ b)
  else if h : x.val - 128 - 128 < 128 then q2 (ix2 ⟨x.val - 128 - 128, h⟩ b)
  else q3 (ix2 ⟨x.val - 128 - 128 - 128, by omega⟩ b)

/-- Row `e 128 + m` of the four quarters is row `m` of quarter `e`. -/
theorem rows4_apply (q0 q1 q2 q3 : FVec Ideal S128x128 .f32) (b m : Fin 128) (e : Fin 4) :
    rows4 q0 q1 q2 q3 b ⟨e.val * 128 + m.val, by omega⟩
      = (![q0, q1, q2, q3] e : FVec Ideal S128x128 .f32) (ix2 m b) := by
  have hm := m.isLt
  unfold rows4
  match e with
  | 0 =>
    rw [dif_pos (by show 0 * 128 + m.val < 128; omega)]
    exact congrArg q0 (congrArg (ix2 · b) (Fin.ext (by show 0 * 128 + m.val = m.val; omega)))
  | 1 =>
    rw [dif_neg (by show ¬1 * 128 + m.val < 128; omega), dif_pos (by show 1 * 128 + m.val - 128 < 128; omega)]
    exact congrArg q1 (congrArg (ix2 · b) (Fin.ext (by show 1 * 128 + m.val - 128 = m.val; omega)))
  | 2 =>
    rw [dif_neg (by show ¬2 * 128 + m.val < 128; omega), dif_neg (by show ¬2 * 128 + m.val - 128 < 128; omega),
      dif_pos (by show 2 * 128 + m.val - 128 - 128 < 128; omega)]
    exact congrArg q2 (congrArg (ix2 · b) (Fin.ext (by show 2 * 128 + m.val - 128 - 128 = m.val; omega)))
  | 3 =>
    rw [dif_neg (by show ¬3 * 128 + m.val < 128; omega), dif_neg (by show ¬3 * 128 + m.val - 128 < 128; omega),
      dif_neg (by show ¬3 * 128 + m.val - 128 - 128 < 128; omega)]
    exact congrArg q3 (congrArg (ix2 · b) (Fin.ext (by show 3 * 128 + m.val - 128 - 128 - 128 = m.val; omega)))

/-- The last layer at an index, over the quarters laid end to end. -/
theorem finish_rows (q0 q1 q2 q3 : FVec Ideal S128x128 .f32) (x3 : FVec Ideal S1x32x512 .f32)
    (x4 : FVec Ideal S1x32x1 .f32) (r : Fin 32) (b : Fin 128) :
    finish q0 q1 q2 q3 x3 x4 (ix3 0 r b)
      = (∑ x : Fin 512, x3 (ix3 0 r x) * rows4 q0 q1 q2 q3 b x) + x4 (ix3 0 r 0) := by
  pointwise [finish]
  rfl

/-- The last layer at an index, quarter by quarter, then the bias. -/
theorem finish_apply (q0 q1 q2 q3 : FVec Ideal S128x128 .f32) (x3 : FVec Ideal S1x32x512 .f32)
    (x4 : FVec Ideal S1x32x1 .f32) (r : Fin 32) (b : Fin 128) :
    finish q0 q1 q2 q3 x3 x4 (ix3 0 r b)
      = (∑ e : Fin 4, ∑ f : Fin 8, ∑ i : Fin 16, x3 (ix3 0 r ⟨e.val * 128 + (row f i).val, by omega⟩)
          * (![q0, q1, q2, q3] e : FVec Ideal S128x128 .f32) (ix2 (row f i) b)) + x4 (ix3 0 r 0) := by
  rw [finish_rows, sum_blocks 4 128]
  refine congrArg (· + x4 (ix3 0 r 0)) (Finset.sum_congr rfl fun e _ => ?_)
  rw [sum_blocks 8 16]
  refine Finset.sum_congr rfl fun f _ => Finset.sum_congr rfl fun i _ => ?_
  rw [← rows4_apply q0 q1 q2 q3 b (row f i) e]
  rfl

/-- The group's last layer's weights and biases as the kernel's two block arrays hold them. -/
structure Head (x3 : FVec Ideal S1x32x512 .f32) (x4 : FVec Ideal S1x32x1 .f32)
    (p : Fin 8 → Fin 4 → Fin 16 → Fin 4 → EReal) (q : Fin 8 → Fin 4 → EReal) : Prop where
  /-- the weights: a field's own on its own columns, zeros elsewhere -/
  weight : ∀ f d (e : Fin 4) (e' : Fin 8) i, x3 (ix3 0 ⟨f.val * 4 + d.val, by omega⟩ ⟨e.val * 128 + (row e' i).val, by omega⟩)
    = if e' = f then p f d i e else 0
  /-- the biases -/
  bias : ∀ f d, x4 (ix3 0 ⟨f.val * 4 + d.val, by omega⟩ 0) = q f d

/-- What the body stores for a group: the eight fields' networks' outputs. -/
theorem body_net {x0 : FVec Ideal S1x8x131072 .bf16} {x1 : FVec Ideal S1x128x48 .bf16}
    {x2 : FVec Ideal S1x128x641 .bf16} {x3 : FVec Ideal S1x32x512 .f32} {x4 : FVec Ideal S1x32x1 .f32}
    {p : Fin 8 → Fin 4 → Fin 16 → Fin 4 → EReal} {q : Fin 8 → Fin 4 → EReal}
    (hv : Signal (k0_pay2 x0) n) (hw : Weights (k0_pay3 x1) (k0_pay4 x2) n) (hp : Head x3 x4 p q)
    (f : Fin 8) (d : Fin 4) (b : Fin 128) :
    body x0 x1 x2 x3 x4 (ix3 0 ⟨f.val * 4 + d.val, by omega⟩ b) = (n f b).out (p f d) (q f d) := by
  unfold body Net.out
  rw [finish_apply, hp.bias]
  refine congrArg (· + q f d) (Finset.sum_congr rfl fun e _ => ?_)
  rw [Finset.sum_comm]
  refine Finset.sum_congr rfl fun i _ => ?_
  have hq : ∀ e' : Fin 8, (![seg0 (k0_pay2 x0) (k0_pay3 x1) (k0_pay4 x2), seg1 (k0_pay2 x0) (k0_pay3 x1) (k0_pay4 x2),
      seg2 (k0_pay2 x0) (k0_pay3 x1) (k0_pay4 x2), seg3 (k0_pay2 x0) (k0_pay3 x1) (k0_pay4 x2)] e :
        FVec Ideal S128x128 .f32) (ix2 (row e' i) b) = (n e' b).quarter i e.val := fun e' => by
    match e with
    | 0 => exact seg0_net hw hv e' b i
    | 1 => exact seg1_net hw hv e' b i
    | 2 => exact seg2_net hw hv e' b i
    | 3 => exact seg3_net hw hv e' b i
  rw [← sum_diag 8 f (p f d i e) fun e' => (n e' b).quarter i e.val]
  exact Finset.sum_congr rfl fun e' _ => by rw [hp.weight, hq]

end Cert.KernelIdeal.Cnn

end
-- ==== Proof.Cnn.Entry.lean ====
module
public import proofs.«01_k».proof.Proof.Cnn.Windows
public import Idealize.ShloMosaic.Lib.Pipeline.ValueKit
public import Idealize.ShloMosaic.Lib.StableHlo.ReadAt

/-! What the five arrays that the program hands to its grid hold, entry by entry, in terms of the program's arguments: the signal with time
    outermost, the two block-diagonal weight tables with their biases, the block-diagonal head with the mean's division in it, and the head's bias. -/

@[expose] public section

set_option maxRecDepth 16384

noncomputable section

namespace Cert.KernelIdeal.Cnn

open Cert.KernelIdeal Cert.KernelIdeal.Gen Idealize.ShloMosaic Idealize.ShloMosaic.TcCoe Idealize.SL.Sem

variable (m : (ℓ : Loc nD τ sig) → Buf (Elt Ideal) ℓ) (c : Dev nD)

/-- The signal as the program receives it: sample, time, field. -/
abbrev argX : S128x1024x32.Idx → EReal := m (c, Proc.tc.devRef main_arg0)

/-- The first layer's weights as the program receives them. -/
abbrev argW1 : S32x16x1x5.Idx → EReal := m (c, Proc.tc.devRef main_arg2)

/-- The first layer's bias as the program receives it. -/
abbrev argB1 : S32x16.Idx → EReal := m (c, Proc.tc.devRef main_arg3)

/-- The second layer's weights as the program receives them. -/
abbrev argW2 : S32x16x16x5.Idx → EReal := m (c, Proc.tc.devRef main_arg4)

/-- The second layer's bias as the program receives it. -/
abbrev argB2 : S32x16.Idx → EReal := m (c, Proc.tc.devRef main_arg5)

/-- The head's weights as the program receives them. -/
abbrev argP : S32x4x64.Idx → EReal := m (c, Proc.tc.devRef main_arg6)

/-- The head's bias as the program receives it. -/
abbrev argQ : S32x4.Idx → EReal := m (c, Proc.tc.devRef main_arg7)

/-- The number of times a quarter of the signal holds, as the program's division writes it. -/
def len : EReal := Ideal.ofBits FTy.f32 1132462080#32

/-- The entry of the identity table as the program makes it from two numbers. -/
def eye (a b : ℕ) : EReal :=
  FloatOps.uitofp (F := Ideal) FTy.f32
    (IntOp.cmpi CmpIPredicate.eq (IntOp.addi (BitVec.ofNat 32 a) 0#32) (BitVec.ofNat 32 b))

/-- The identity table's entry, folded. -/
theorem eye_def (a b : ℕ) : FloatOps.uitofp (F := Ideal) FTy.f32
    (IntOp.cmpi CmpIPredicate.eq (IntOp.addi (BitVec.ofNat 32 a) 0#32) (BitVec.ofNat 32 b)) = eye a b := rfl

/-- The identity table holds one on its diagonal and zero off it. -/
theorem eye_eq (f e : Fin 8) : eye f.val e.val = if e = f then 1 else 0 := by
  have h : IntOp.cmpi CmpIPredicate.eq (IntOp.addi (BitVec.ofNat 32 f.val) 0#32) (BitVec.ofNat 32 e.val)
      = if e = f then 1#1 else 0#1 := by
    revert f e; decide
  unfold eye
  rw [h]
  split_ifs <;> simp [FloatOps.uitofp]

/-- A number times the identity table's entry is the number on the diagonal and zero off it. -/
theorem mul_eye (a : EReal) (f e : Fin 8) : a * eye f.val e.val = if e = f then a else 0 := by
  rw [eye_eq]
  split_ifs <;> simp

/-- Field `f` of group `g` among all the fields. -/
def fld (g : Fin 4) (f : Fin 8) : Fin 32 := ⟨g.val * 8 + f.val, by omega⟩

/-- Two entries of the second layer's weights, each times an entry of the identity table, agree when their places do. -/
theorem w2_congr (W : S32x16x16x5.Idx → EReal) {a : Fin 32} {b i i' : Fin 16} {k k' : Fin 5} {x e e' : ℕ} (hi : i.val = i'.val)
    (hk : k.val = k'.val) (he : e = e') : W (ix4 a b i k) * eye x e = W (ix4 a b i' k') * eye x e' := by
  rw [Fin.ext hi, Fin.ext hk, he]

/-- The signal's array: group `g`, field `f`, place `j` of the times laid out with the samples innermost. -/
theorem x_at (g : Fin 4) (f : Fin 8) (t : Fin 1024) (b : Fin 128) :
    (V m c main_v2 : S4x8x131072.Idx → EReal) (ix3 g f ⟨t.val * 128 + b.val, by omega⟩) = argX m c (ix3 b t (fld g f)) := by
  unfold V V0
  after_reads_at
  rfl

/-- The first weight table, before its bias columns. -/
theorem w1_at (g : Fin 4) (r : Fin 128) (j : Fin 40) :
    (V m c main_v20 : S4x128x48.Idx → EReal) (ix3 g r ⟨j.val, by omega⟩)
      = argW1 m c (ix4 ⟨g.val * 8 + r.val / 16, by omega⟩ ⟨r.val % 16, by omega⟩ 0 ⟨j.val / 8, by omega⟩) * eye (r.val / 16) (j.val % 8) := by
  unfold V V0
  after_reads_at
  after_reads_at
  simp only [eye_def]

/-- The first weight table's bias column. -/
theorem b1_at (g : Fin 4) (r : Fin 128) :
    (V m c main_v20 : S4x128x48.Idx → EReal) (ix3 g r 40)
      = argB1 m c (ix2 ⟨g.val * 8 + r.val / 16, by omega⟩ ⟨r.val % 16, by omega⟩) := by
  unfold V V0
  after_reads_at
  after_reads_at

/-- The first weight table's columns behind the bias hold zero. -/
theorem z1_at (g : Fin 4) (r : Fin 128) (j : Fin 48) (hj : 41 ≤ j.val) :
    (V m c main_v20 : S4x128x48.Idx → EReal) (ix3 g r j) = (0 : EReal) := by
  unfold V V0
  after_reads_at
  rw [dif_neg (by omega), dif_neg (by omega)]
  after_reads_at

set_option maxHeartbeats 1000000 in
/-- The second weight table, before its bias column: column `k * 128 + j`. -/
theorem w2_at (g : Fin 4) (r : Fin 128) (k : Fin 5) (j : Fin 128) :
    (V m c main_v41 : S4x128x641.Idx → EReal) (ix3 g r ⟨k.val * 128 + j.val, by omega⟩)
      = argW2 m c (ix4 ⟨g.val * 8 + r.val / 16, by omega⟩ ⟨r.val % 16, by omega⟩ ⟨j.val % 16, by omega⟩ k) * eye (r.val / 16) (j.val / 16) := by
  unfold V V0
  after_reads_at
  after_reads_at
  simp only [eye_def]
  split_ifs
  all_goals first
    | (exfalso; omega)
    | (refine w2_congr (argW2 m c) ?_ ?_ ?_
       · show _ % 16 = _ % 16
         omega
       · simp only [Fin.isValue, Fin.coe_ofNat_eq_mod]
         omega
       · omega)

/-- The second weight table's bias column. -/
theorem b2_at (g : Fin 4) (r : Fin 128) :
    (V m c main_v41 : S4x128x641.Idx → EReal) (ix3 g r 640)
      = argB2 m c (ix2 ⟨g.val * 8 + r.val / 16, by omega⟩ ⟨r.val % 16, by omega⟩) := by
  unfold V V0
  after_reads_at
  after_reads_at

/-- The head's table: row `r`, column `j`. -/
theorem p_at (g : Fin 4) (r : Fin 32) (j : Fin 512) :
    (V m c main_v51 : S4x32x512.Idx → EReal) (ix3 g r j)
      = Ideal.div (argP m c (ix3 ⟨g.val * 8 + r.val / 4, by omega⟩ ⟨r.val % 4, by omega⟩ ⟨j.val % 16 * 4 + j.val / 128, by omega⟩)) len
        * eye (r.val / 4) (j.val / 16 % 8) := by
  unfold V V0
  after_reads_at
  simp only [eye_def]
  rfl

/-- The head's bias column. -/
theorem q_at (g : Fin 4) (r : Fin 32) :
    (V m c main_v52 : S4x32x1.Idx → EReal) (ix3 g r 0) = argQ m c (ix2 ⟨g.val * 8 + r.val / 4, by omega⟩ ⟨r.val % 4, by omega⟩) := by
  unfold V V0
  after_reads_at

end Cert.KernelIdeal.Cnn

end
-- ==== Proof.Cnn.Field.lean ====
module
public import proofs.«01_k».proof.Proof.Cnn.Spec

/-! The network of one field and one sample, from the field's signal and weights: the signal is padded by four zeros on each side. -/

@[expose] public section

noncomputable section

namespace Cert.Cnn

open scoped BigOperators

/-- The network over the signal `s`, with four zeros before it and zeros behind it. -/
def mkNet (s : Fin 1024 → EReal) (w1 : Fin 16 → Fin 5 → EReal) (b1 : Fin 16 → EReal) (w2 : Fin 16 → Fin 16 → Fin 5 → EReal)
    (b2 : Fin 16 → EReal) : Net where
  x t := if h : 4 ≤ t ∧ t < 1028 then s ⟨t - 4, by omega⟩ else 0
  w1 := w1
  b1 := b1
  w2 := w2
  b2 := b2

end Cert.Cnn

end
-- ==== Proof.Cnn.Array.lean ====
module
public import proofs.«01_k».proof.Proof.Cnn.Windows
public import proofs.«01_k».proof.Proof.Cnn.Entry
public import proofs.«01_k».proof.Proof.Cnn.Field

/-! What the kernel's output array holds after the grid has run: at group `g`, row `f * 4 + d` and sample `b`, the output of the network of the
    group's field `f` for that sample. -/

@[expose] public section

set_option maxRecDepth 16384

noncomputable section

namespace Cert.KernelIdeal.Cnn

open Cert.KernelIdeal Cert.KernelIdeal.Gen Idealize.ShloMosaic Idealize.ShloMosaic.TcCoe Idealize.SL.Sem
open Cert.Cnn

variable (m : (ℓ : Loc nD τ sig) → Buf (Elt Ideal) ℓ) (c : Dev nD)

/-- The network of field `f` and sample `b`. -/
def net (f : Fin 32) (b : Fin 128) : Net :=
  mkNet (fun t => argX m c (ix3 b t f)) (fun i k => argW1 m c (ix4 f i 0 k)) (fun i => argB1 m c (ix2 f i))
    (fun o i k => argW2 m c (ix4 f o i k)) (fun o => argB2 m c (ix2 f o))

/-- The head of field `f`: the weight of output `d`, channel `i` and quarter `e`, divided by the number of times in a quarter. -/
def wgt (f : Fin 32) (d : Fin 4) (i : Fin 16) (e : Fin 4) : EReal :=
  Ideal.div (argP m c (ix3 f d ⟨i.val * 4 + e.val, by omega⟩)) len

/-- The grid point's number is its group. -/
def grp (t : Fin cfg0.N) : Fin 4 := ⟨t.val, t.isLt⟩

/-- Every window's block at a grid point is the group's own. -/
theorem index_eq : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] := by
  decide +kernel

/-- The signal's block. -/
theorem blk0 (t : Fin cfg0.N) (f : Fin 8) (j : Fin 131072) :
    iblk m c 0 t (ix3 0 f j) = (V m c main_v2 : S4x8x131072.Idx → EReal) (ix3 (grp t) f j) := by
  blk_ext [iblk, index_eq t]
  rfl

/-- The first weight table's block. -/
theorem blk1 (t : Fin cfg0.N) (r : Fin 128) (j : Fin 48) :
    iblk m c 1 t (ix3 0 r j) = (V m c main_v20 : S4x128x48.Idx → EReal) (ix3 (grp t) r j) := by
  blk_ext [iblk, index_eq t]
  rfl

/-- The second weight table's block. -/
theorem blk2 (t : Fin cfg0.N) (r : Fin 128) (j : Fin 641) :
    iblk m c 2 t (ix3 0 r j) = (V m c main_v41 : S4x128x641.Idx → EReal) (ix3 (grp t) r j) := by
  blk_ext [iblk, index_eq t]
  rfl

/-- The head's block. -/
theorem blk3 (t : Fin cfg0.N) (r : Fin 32) (j : Fin 512) :
    iblk m c 3 t (ix3 0 r j) = (V m c main_v51 : S4x32x512.Idx → EReal) (ix3 (grp t) r j) := by
  blk_ext [iblk, index_eq t]
  rfl

/-- The head's bias block. -/
theorem blk4 (t : Fin cfg0.N) (r : Fin 32) :
    iblk m c 4 t (ix3 0 r 0) = (V m c main_v52 : S4x32x1.Idx → EReal) (ix3 (grp t) r 0) := by
  blk_ext [iblk, index_eq t]
  rfl

/-- The signal with its leading axis dropped. -/
theorem pay2_at (x : FVec Ideal S1x8x131072 .bf16) (f : Fin 8) (j : Fin 131072) : k0_pay2 x (ix2 f j) = x (ix3 0 f j) := by
  unfold k0_pay2
  pointwise

/-- The first weight table with its leading axis dropped. -/
theorem pay3_at (x : FVec Ideal S1x128x48 .bf16) (r : Fin 128) (j : Fin 48) : k0_pay3 x (ix2 r j) = x (ix3 0 r j) := by
  unfold k0_pay3
  pointwise

/-- The second weight table with its leading axis dropped. -/
theorem pay4_at (x : FVec Ideal S1x128x641 .bf16) (r : Fin 128) (j : Fin 641) : k0_pay4 x (ix2 r j) = x (ix3 0 r j) := by
  unfold k0_pay4
  pointwise

/-- Row `i` of field `f`: its field. -/
theorem row_div (f : Fin 8) (i : Fin 16) : (row f i).val / 16 = f.val := by
  show (f.val * 16 + i.val) / 16 = f.val
  omega

/-- Row `i` of field `f`: its channel. -/
theorem row_mod (f : Fin 8) (i : Fin 16) : (row f i).val % 16 = i.val := by
  show (f.val * 16 + i.val) % 16 = i.val
  omega

/-- The networks of a group. -/
def nets (g : Fin 4) (f : Fin 8) (b : Fin 128) : Net := net m c (fld g f) b

/-- The group's block of the signal holds its networks' signals. -/
theorem signal (t : Fin cfg0.N) : Signal (k0_pay2 (iblk m c 0 t)) (nets m c (grp t)) where
  inside f b s := by
    rw [pay2_at, blk0, x_at]
    show _ = if h : 4 ≤ s.val + 4 ∧ s.val + 4 < 1028 then argX m c (ix3 b ⟨s.val + 4 - 4, by omega⟩ (fld (grp t) f)) else 0
    rw [dif_pos (by omega)]
    exact congrArg (fun u => argX m c (ix3 b u (fld (grp t) f))) (Fin.ext (by show s.val = s.val + 4 - 4; omega))
  before f b s h := dif_neg (by omega)
  after f b s h := dif_neg (by omega)

/-- The group's weight tables hold its networks' weights on their diagonals. -/
theorem weights (t : Fin cfg0.N) : Weights (k0_pay3 (iblk m c 1 t)) (k0_pay4 (iblk m c 2 t)) (nets m c (grp t)) where
  first f b i k e := by
    rw [pay3_at, blk1, w1_at m c (grp t) (row f i) ⟨k.val * 8 + e.val, by omega⟩]
    have h1 : (k.val * 8 + e.val) % 8 = e.val := by omega
    have h2 : (⟨(k.val * 8 + e.val) / 8, by omega⟩ : Fin 5) = k := Fin.ext (by show (k.val * 8 + e.val) / 8 = k.val; omega)
    have h3 : (⟨(row f i).val % 16, by omega⟩ : Fin 16) = i := Fin.ext (row_mod f i)
    have h4 : (⟨(grp t).val * 8 + (row f i).val / 16, by omega⟩ : Fin 32) = fld (grp t) f :=
      Fin.ext (by show (grp t).val * 8 + (row f i).val / 16 = _; rw [row_div]; rfl)
    rw [h3, h4]
    show argW1 m c (ix4 _ _ 0 ⟨(k.val * 8 + e.val) / 8, _⟩) * eye _ ((k.val * 8 + e.val) % 8) = _
    rw [h1, h2, row_div, mul_eye]
    rfl
  bias1 f b i e := by
    rw [pay3_at, blk1]
    by_cases he : e = 0
    · subst he
      rw [if_pos rfl]
      refine (b1_at m c (grp t) (row f i)).trans ?_
      exact congrArg₂ (fun u v => argB1 m c (ix2 u v))
        (Fin.ext (by show (grp t).val * 8 + (row f i).val / 16 = _; rw [row_div]; rfl)) (Fin.ext (row_mod f i))
    · rw [if_neg he]
      exact z1_at m c (grp t) (row f i) _ (by have := Fin.val_ne_of_ne he; show 41 ≤ 40 + e.val; simp at this; omega)
  second f b o k e i := by
    rw [pay4_at, blk2, w2_at m c (grp t) (row f o) k (row e i)]
    have h3 : (⟨(row f o).val % 16, by omega⟩ : Fin 16) = o := Fin.ext (row_mod f o)
    have h3' : (⟨(row e i).val % 16, by omega⟩ : Fin 16) = i := Fin.ext (row_mod e i)
    have h4 : (⟨(grp t).val * 8 + (row f o).val / 16, by omega⟩ : Fin 32) = fld (grp t) f :=
      Fin.ext (by show (grp t).val * 8 + (row f o).val / 16 = _; rw [row_div]; rfl)
    rw [h3, h3', h4, row_div, row_div, mul_eye]
    rfl
  bias2 f b o := by
    rw [pay4_at, blk2]
    refine (b2_at m c (grp t) (row f o)).trans ?_
    exact congrArg₂ (fun u v => argB2 m c (ix2 u v))
      (Fin.ext (by show (grp t).val * 8 + (row f o).val / 16 = _; rw [row_div]; rfl)) (Fin.ext (row_mod f o))

/-- The group's head holds its fields' heads on its diagonal. -/
theorem heads (t : Fin cfg0.N) : Head (iblk m c 3 t) (iblk m c 4 t) (fun f => wgt m c (fld (grp t) f))
    (fun f d => argQ m c (ix2 (fld (grp t) f) d)) where
  weight f d e e' i := by
    rw [blk3, p_at]
    have hr : (row e' i).val = e'.val * 16 + i.val := rfl
    have h1 : (e.val * 128 + (row e' i).val) / 16 % 8 = e'.val := by omega
    have h2 : (f.val * 4 + d.val) / 4 = f.val := by omega
    have h3 : (⟨(grp t).val * 8 + (f.val * 4 + d.val) / 4, by omega⟩ : Fin 32) = fld (grp t) f :=
      Fin.ext (by show (grp t).val * 8 + (f.val * 4 + d.val) / 4 = (grp t).val * 8 + f.val; omega)
    have h4 : (⟨(f.val * 4 + d.val) % 4, by omega⟩ : Fin 4) = d := Fin.ext (by show (f.val * 4 + d.val) % 4 = d.val; omega)
    have h5 : (⟨(e.val * 128 + (row e' i).val) % 16 * 4 + (e.val * 128 + (row e' i).val) / 128, by omega⟩ : Fin 64)
        = ⟨i.val * 4 + e.val, by omega⟩ :=
      Fin.ext (by show (e.val * 128 + (row e' i).val) % 16 * 4 + (e.val * 128 + (row e' i).val) / 128 = i.val * 4 + e.val; omega)
    show Ideal.div (argP m c (ix3 ⟨(grp t).val * 8 + (f.val * 4 + d.val) / 4, _⟩ ⟨(f.val * 4 + d.val) % 4, _⟩
      ⟨(e.val * 128 + (row e' i).val) % 16 * 4 + (e.val * 128 + (row e' i).val) / 128, _⟩)) len
        * eye ((f.val * 4 + d.val) / 4) ((e.val * 128 + (row e' i).val) / 16 % 8) = _
    rw [h1, h3, h4, h5, h2, mul_eye]
    rfl
  bias f d := by
    rw [blk4, q_at]
    exact congrArg₂ (fun u v => argQ m c (ix2 u v))
      (Fin.ext (by show (grp t).val * 8 + (f.val * 4 + d.val) / 4 = (grp t).val * 8 + f.val; omega))
      (Fin.ext (by show (f.val * 4 + d.val) % 4 = d.val; omega))

/-- The output array after the run. -/
def out : S4x32x128.Idx → EReal := fun j =>
  (net m c ⟨(j 0).val * 8 + (j 1).val / 4, by idx_bounds j; omega⟩ (j 2)).out
    (wgt m c ⟨(j 0).val * 8 + (j 1).val / 4, by idx_bounds j; omega⟩ ⟨(j 1).val % 4, by omega⟩)
    (argQ m c (ix2 ⟨(j 0).val * 8 + (j 1).val / 4, by idx_bounds j; omega⟩ ⟨(j 1).val % 4, by omega⟩))

/-- The output array at field `f` of group `g`, output `d` and sample `b`. -/
theorem out_at (g : Fin 4) (f : Fin 8) (d : Fin 4) (b : Fin 128) : out m c (ix3 g ⟨f.val * 4 + d.val, by omega⟩ b)
    = (nets m c g f b).out (wgt m c (fld g f) d) (argQ m c (ix2 (fld g f) d)) := by
  have h3 : (⟨g.val * 8 + (f.val * 4 + d.val) / 4, by omega⟩ : Fin 32) = fld g f :=
    Fin.ext (by show g.val * 8 + (f.val * 4 + d.val) / 4 = g.val * 8 + f.val; omega)
  have h4 : (⟨(f.val * 4 + d.val) % 4, by omega⟩ : Fin 4) = d := Fin.ext (by show (f.val * 4 + d.val) % 4 = d.val; omega)
  show (net m c ⟨g.val * 8 + (f.val * 4 + d.val) / 4, _⟩ b).out (wgt m c ⟨g.val * 8 + (f.val * 4 + d.val) / 4, _⟩ ⟨(f.val * 4 + d.val) % 4, _⟩)
    (argQ m c (ix2 ⟨g.val * 8 + (f.val * 4 + d.val) / 4, _⟩ ⟨(f.val * 4 + d.val) % 4, _⟩)) = _
  rw [h3, h4]
  rfl

/-- What one grid point stores is its block of the output array. -/
theorem point_eq (t : Fin cfg0.N) (f : Fin 8) (d : Fin 4) (b : Fin 128) :
    body (F := Ideal) (iblk m c 0 t) (iblk m c 1 t) (iblk m c 2 t) (iblk m c 3 t) (iblk m c 4 t) (ix3 0 ⟨f.val * 4 + d.val, by omega⟩ b)
      = out m c (ix3 (grp t) ⟨f.val * 4 + d.val, by omega⟩ b) :=
  (body_net (signal m c t) (weights m c t) (heads m c t) f d b).trans (out_at m c (grp t) f d b).symm

/-- The output window's array holds, at every place, the output of the place's network. -/
theorem arr_eq : (dats m 0 c).arrAt 5 cfg0.N = out m c := by
  refine (dats m 0 c).arrAt_eq_of_covers 5 _ (by decide +kernel) fun t hf y => ?_
  blk_simp
  rw [after0_5, out_eq]
  frame_out
  have h1 : (y 1).val < 32 := (y 1).isLt
  refine Eq.trans (congrArg _ ?_) ((point_eq m c t ⟨(y 1).val / 4, by omega⟩ ⟨(y 1).val % 4, by omega⟩ (y 2)).trans (congrArg (out m c) ?_))
  · blk_ext
  · blk_ext [index_eq t]
    rfl

end Cert.KernelIdeal.Cnn

end
-- ==== Proof.Cnn.Run.lean ====
module
public import proofs.«01_k».proof.Proof.Cnn.Array

/-! The kernel's run: its result, read after the operations behind the grid, and its arguments unchanged. -/

@[expose] public section

set_option maxRecDepth 16384

noncomputable section

namespace Cert.KernelIdeal.Cnn

open Cert.KernelIdeal Cert.KernelIdeal.Gen Idealize.ShloMosaic Idealize.ShloMosaic.TcCoe Idealize.SL.Sem

variable (m : (ℓ : Loc nD τ sig) → Buf (Elt Ideal) ℓ)

/-- The result as the operations behind the grid leave it. -/
abbrev res (c : Dev nD) : S128x128.Idx → EReal := Pipeline.afterTail₀ cfgs (dats m) 0 (V0 m) [hostOps1] c main_v55

/-- The result at sample `b` and column `j` is the output array at the column's group and row. -/
theorem res_at (c : Dev nD) (b j : Fin 128) : res m c (ix2 b j) = out m c (ix3 ⟨j.val / 32, by omega⟩ ⟨j.val % 32, by omega⟩ b) := by
  unfold res Pipeline.afterTail₀
  after_reads_at
  exact congrFun ((Pipeline.withArrays_arr spec0 (by decide) c (V0 m c) (fun w => (dats m 0 c).arrAt w (cfgs 0).N) 5).trans (arr_eq m c)) _

/-- The kernel runs to its end with the result above and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v55) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h.1 c).2 main_v55 (Pipeline.mem_restRefs_of main_v55 (by decide) (by decide)), h.2 c⟩)
    (θ_run_and (run_main m ρ) (unchanged m ρ))

end Cert.KernelIdeal.Cnn

end
-- ==== Proof.Cnn.Ref.lean ====
module
public import proofs.«01_k».proof.Proof.Cnn.Field
public import proofs.«01_k».proof.Proof.Gen.ReferenceIdeal.Run
public import Idealize.ShloMosaic.Lib.Pipeline.ValueKit

/-! What the reference computes, layer by layer: the padded signal, the first convolution and its pointwise maximum, the padded first layer, the
    second convolution, and the mean over each quarter followed by the head. -/

@[expose] public section

set_option maxRecDepth 16384

noncomputable section

namespace Cert.ReferenceIdeal.Cnn

open Cert.ReferenceIdeal Cert.ReferenceIdeal.Gen Idealize.ShloMosaic Idealize.ShloMosaic.TcCoe Idealize.SL.Sem
open scoped BigOperators

/-- The signal, field by field, with two zeros on each side. -/
def padX (x : FVec Ideal S128x1024x32 .f32) : FVec Ideal S32x128x1028 .f32 :=
  pad S32x128x1028 ![0, 0, 2] ![0, 0, 2] ![0, 0, 0] (transpose S32x128x1024 [2, 0, 1] x transposes_S128x1024x32_S32x128x1024_2_0_1)
    (sitofp .f32 (constantI S_ 32 0#32)) pads_S32x128x1024_S32x128x1028_000_000_220 h_S_

/-- One tap of the first convolution. -/
def tap1 (k : ℕ) (h : S32x128x1028.Slices ![0, 0, k] S32x128x1024) (h' : S32x16x1x5.Slices ![0, 0, 0, k] S32x16x1x1)
    (xp : FVec Ideal S32x128x1028 .f32) (w1 : FVec Ideal S32x16x1x5 .f32) : FVec Ideal S32x128x16x1024 .f32 :=
  mulf (broadcastInDim S32x128x16x1024 ![0, 1, 2, 3] bcast_S32x128x1x1024_S32x128x16x1024_0_1_2_3
      (broadcastInDim S32x128x1x1024 ![0, 1, 3] bcast_S32x128x1024_S32x128x1x1024_0_1_3 (extractStridedSlice S32x128x1024 ![0, 0, k] xp h)))
    (broadcastInDim S32x128x16x1024 ![0, 1, 2, 3] bcast_S32x1x16x1_S32x128x16x1024_0_1_2_3
      (broadcastInDim S32x1x16x1 ![0, 2] bcast_S32x16_S32x1x16x1_0_2
        (shapeCast S32x16 (extractStridedSlice S32x16x1x1 ![0, 0, 0, k] w1 h') shapeCasts_S32x16x1x1_S32x16)))

/-- The bias added to every sample and time, and the negative entries replaced by zero. -/
def relu (y : FVec Ideal S32x128x16x1024 .f32) (b : FVec Ideal S32x16 .f32) : FVec Ideal S32x128x16x1024 .f32 :=
  maximumf (addf y (broadcastInDim S32x128x16x1024 ![0, 1, 2, 3] bcast_S32x1x16x1_S32x128x16x1024_0_1_2_3
      (broadcastInDim S32x1x16x1 ![0, 2] bcast_S32x16_S32x1x16x1_0_2 b)))
    (broadcastInDim S32x128x16x1024 ![] bcast_S_S32x128x16x1024 (constant S_ .f32 0x00000000#32))

/-- The first layer. -/
def lay1 (xp : FVec Ideal S32x128x1028 .f32) (w1 : FVec Ideal S32x16x1x5 .f32) (b1 : FVec Ideal S32x16 .f32) :
    FVec Ideal S32x128x16x1024 .f32 :=
  relu (addf (addf (addf (addf
    (tap1 0 slices_S32x128x1028_S32x128x1024_0_0_0 slices_S32x16x1x5_S32x16x1x1_0_0_0_0 xp w1)
    (tap1 1 slices_S32x128x1028_S32x128x1024_0_0_1 slices_S32x16x1x5_S32x16x1x1_0_0_0_1 xp w1))
    (tap1 2 slices_S32x128x1028_S32x128x1024_0_0_2 slices_S32x16x1x5_S32x16x1x1_0_0_0_2 xp w1))
    (tap1 3 slices_S32x128x1028_S32x128x1024_0_0_3 slices_S32x16x1x5_S32x16x1x1_0_0_0_3 xp w1))
    (tap1 4 slices_S32x128x1028_S32x128x1024_0_0_4 slices_S32x16x1x5_S32x16x1x1_0_0_0_4 xp w1)) b1

/-- The first layer with two zeros on each side. -/
def padH (h : FVec Ideal S32x128x16x1024 .f32) : FVec Ideal S32x128x16x1028 .f32 :=
  pad S32x128x16x1028 ![0, 0, 0, 2] ![0, 0, 0, 2] ![0, 0, 0, 0] h
    (sitofp .f32 (constantI S_ 32 0#32)) pads_S32x128x16x1024_S32x128x16x1028_000_000_000_220 h_S_

/-- One tap of the second convolution. -/
def tap2 (k : ℕ) (h : S32x128x16x1028.Slices ![0, 0, 0, k] S32x128x16x1024) (h' : S32x16x16x5.Slices ![0, 0, 0, k] S32x16x16x1)
    (hp : FVec Ideal S32x128x16x1028 .f32) (w2 : FVec Ideal S32x16x16x5 .f32) : FVec Ideal S32x128x16x1024 .f32 :=
  transpose S32x128x16x1024 [0, 2, 1, 3]
    (Host.dotGeneral dot_S32x16x16_S32x128x16x1024_S32x16x128x1024_2_2_1_13_0_0 none
      (shapeCast S32x16x16 (extractStridedSlice S32x16x16x1 ![0, 0, 0, k] w2 h') shapeCasts_S32x16x16x1_S32x16x16)
      (extractStridedSlice S32x128x16x1024 ![0, 0, 0, k] hp h)) transposes_S32x16x128x1024_S32x128x16x1024_0_2_1_3

/-- The second layer. -/
def lay2 (hp : FVec Ideal S32x128x16x1028 .f32) (w2 : FVec Ideal S32x16x16x5 .f32) (b2 : FVec Ideal S32x16 .f32) :
    FVec Ideal S32x128x16x1024 .f32 :=
  relu (addf (addf (addf (addf
    (tap2 0 slices_S32x128x16x1028_S32x128x16x1024_0_0_0_0 slices_S32x16x16x5_S32x16x16x1_0_0_0_0 hp w2)
    (tap2 1 slices_S32x128x16x1028_S32x128x16x1024_0_0_0_1 slices_S32x16x16x5_S32x16x16x1_0_0_0_1 hp w2))
    (tap2 2 slices_S32x128x16x1028_S32x128x16x1024_0_0_0_2 slices_S32x16x16x5_S32x16x16x1_0_0_0_2 hp w2))
    (tap2 3 slices_S32x128x16x1028_S32x128x16x1024_0_0_0_3 slices_S32x16x16x5_S32x16x16x1_0_0_0_3 hp w2))
    (tap2 4 slices_S32x128x16x1028_S32x128x16x1024_0_0_0_4 slices_S32x16x16x5_S32x16x16x1_0_0_0_4 hp w2)) b2

/-- The mean over each quarter, the head, and the fields side by side. -/
def head (h : FVec Ideal S32x128x16x1024 .f32) (pw : FVec Ideal S32x4x64 .f32) (pb : FVec Ideal S32x4 .f32) : FVec Ideal S128x128 .f32 :=
  shapeCast S128x128 (transpose S128x32x4 [1, 0, 2] (addf
    (Host.dotGeneral dot_S32x128x64_S32x4x64_S32x128x4_2_2_1_1_0_0 none
      (shapeCast S32x128x64 (Host.divf
        (Host.reduceAdd (shapeCast S32x128x16x4x256 h shapeCasts_S32x128x16x1024_S32x128x16x4x256) (constant S_ .f32 0x00000000#32)
          reducesTo_S32x128x16x4x256_S32x128x16x4_d4 h_S_)
        (broadcastInDim S32x128x16x4 ![] bcast_S_S32x128x16x4 (constant S_ .f32 0x43800000#32))) shapeCasts_S32x128x16x4_S32x128x64) pw)
    (broadcastInDim S32x128x4 ![0, 1, 2] bcast_S32x1x4_S32x128x4_0_1_2 (broadcastInDim S32x1x4 ![0, 2] bcast_S32x4_S32x1x4_0_2 pb)))
    transposes_S32x128x4_S128x32x4_1_0_2) shapeCasts_S128x32x4_S128x128

variable (m : (ℓ : Loc nD τ sig) → Buf (Elt Ideal) ℓ) (c : Dev nD)

/-- The reference's result is the head over the second layer over the first. -/
theorem res_eq : Value.res_main_v96 m c
    = head (lay2 (padH (lay1 (padX (m ((c.tc : Thread nD τ).loc main_arg0))) (m ((c.tc : Thread nD τ).loc main_arg2))
        (m ((c.tc : Thread nD τ).loc main_arg3)))) (m ((c.tc : Thread nD τ).loc main_arg4)) (m ((c.tc : Thread nD τ).loc main_arg5)))
      (m ((c.tc : Thread nD τ).loc main_arg6)) (m ((c.tc : Thread nD τ).loc main_arg7)) := rfl

/-- Zero as a whole number reads as the number zero. -/
theorem zero_int : FloatOps.sitofp (F := Ideal) FTy.f32 0#32 = (0 : EReal) := by
  simp [FloatOps.sitofp]

/-- The number of times in a quarter is not zero. -/
theorem len_ne : Ideal.ofBits FTy.f32 1132462080#32 ≠ (0 : EReal) := by
  have h : Ideal.ofBits FTy.f32 1132462080#32 = ((256 : ℝ) : EReal) := by
    simp [Ideal.ofBits, Ideal.ieee, -EReal.coe_mul]; norm_num
  rw [h]
  exact_mod_cast (by norm_num : (256 : ℝ) ≠ 0)

/-- Dividing the sum and then weighting it is dividing the weight and then taking the sum. -/
theorem div_move (a w : EReal) : Ideal.div a (Ideal.ofBits FTy.f32 1132462080#32) * w = Ideal.div w (Ideal.ofBits FTy.f32 1132462080#32) * a := by
  unfold Ideal.div
  rw [if_neg len_ne, if_neg len_ne, mul_right_comm, mul_comm a w, mul_right_comm]

/-- An entry of the padded signal. -/
theorem padX_at (x : FVec Ideal S128x1024x32 .f32) (f : Fin 32) (b : Fin 128) (s : Fin 1028) :
    padX x (ix3 f b s) = if h : 2 ≤ s.val ∧ s.val < 1026 then x (ix3 b ⟨s.val - 2, by omega⟩ f) else 0 := by
  unfold padX
  pointwise
  rw [zero_int]
  by_cases h : 2 ≤ s.val ∧ s.val < 1026
  · rw [dif_pos h, dif_pos (by omega)]
  · rw [dif_neg h, dif_neg (by omega)]

/-- An entry of one tap of the first convolution. -/
theorem tap1_at (k : ℕ) (hk : k < 5) (h) (h') (xp : FVec Ideal S32x128x1028 .f32) (w1 : FVec Ideal S32x16x1x5 .f32) (f : Fin 32) (b : Fin 128)
    (i : Fin 16) (t : Fin 1024) :
    tap1 k h h' xp w1 (ix4 f b i t) = xp (ix3 f b ⟨k + t.val, by omega⟩) * w1 (ix4 f i 0 ⟨k, hk⟩) := by
  unfold tap1
  pointwise

/-- An entry after the bias and the maximum. -/
theorem relu_at (y : FVec Ideal S32x128x16x1024 .f32) (b' : FVec Ideal S32x16 .f32) (f : Fin 32) (b : Fin 128) (i : Fin 16) (t : Fin 1024) :
    relu y b' (ix4 f b i t) = max (y (ix4 f b i t) + b' (ix2 f i)) 0 := by
  unfold relu
  pointwise

/-- An entry of the padded first layer. -/
theorem padH_at (h : FVec Ideal S32x128x16x1024 .f32) (f : Fin 32) (b : Fin 128) (i : Fin 16) (s : Fin 1028) :
    padH h (ix4 f b i s) = if h' : 2 ≤ s.val ∧ s.val < 1026 then h (ix4 f b i ⟨s.val - 2, by omega⟩) else 0 := by
  unfold padH
  pointwise
  rw [zero_int]
  by_cases h' : 2 ≤ s.val ∧ s.val < 1026
  · rw [dif_pos h', dif_pos (by omega)]
  · rw [dif_neg h', dif_neg (by omega)]

/-- An entry of one tap of the second convolution: a sum over the channels. -/
theorem tap2_at (k : ℕ) (hk : k < 5) (h) (h') (hp : FVec Ideal S32x128x16x1028 .f32) (w2 : FVec Ideal S32x16x16x5 .f32) (f : Fin 32) (b : Fin 128)
    (o : Fin 16) (t : Fin 1024) :
    tap2 k h h' hp w2 (ix4 f b o t) = ∑ i : Fin 16, w2 (ix4 f o i ⟨k, hk⟩) * hp (ix4 f b i ⟨k + t.val, by omega⟩) := by
  unfold tap2
  pointwise

/-- An entry of the result: the head's sum over channels and quarters. -/
theorem head_at (h : FVec Ideal S32x128x16x1024 .f32) (pw : FVec Ideal S32x4x64 .f32) (pb : FVec Ideal S32x4 .f32) (b : Fin 128) (f : Fin 32)
    (d : Fin 4) : head h pw pb (ix2 b ⟨f.val * 4 + d.val, by omega⟩)
      = (∑ j : Fin 64, Ideal.div (∑ u : Fin 256, h (ix4 f b ⟨j.val / 4, by omega⟩ ⟨j.val % 4 * 256 + u.val, by omega⟩))
          (Ideal.ofBits FTy.f32 1132462080#32) * pw (ix3 f d j)) + pb (ix2 f d) := by
  unfold head
  pointwise

variable (x : FVec Ideal S128x1024x32 .f32) (w1 : FVec Ideal S32x16x1x5 .f32) (b1 : FVec Ideal S32x16 .f32)
  (w2 : FVec Ideal S32x16x16x5 .f32) (b2 : FVec Ideal S32x16 .f32) (pw : FVec Ideal S32x4x64 .f32) (pb : FVec Ideal S32x4 .f32)

/-- The network of field `f` and sample `b`. -/
def net (f : Fin 32) (b : Fin 128) : Cert.Cnn.Net :=
  Cert.Cnn.mkNet (fun t => x (ix3 b t f)) (fun i k => w1 (ix4 f i 0 k)) (fun i => b1 (ix2 f i)) (fun o i k => w2 (ix4 f o i k))
    (fun o => b2 (ix2 f o))

/-- The padded signal is the network's signal, two places on. -/
theorem padX_net (f : Fin 32) (b : Fin 128) (s : Fin 1028) : padX x (ix3 f b s) = (net x w1 b1 w2 b2 f b).x (s.val + 2) := by
  rw [padX_at]
  show _ = if h : 4 ≤ s.val + 2 ∧ s.val + 2 < 1028 then x (ix3 b ⟨s.val + 2 - 4, by omega⟩ f) else 0
  by_cases h : 2 ≤ s.val ∧ s.val < 1026
  · rw [dif_pos h, dif_pos (by omega)]
    exact congrArg (fun t => x (ix3 b t f)) (Fin.ext (by show s.val - 2 = s.val + 2 - 4; omega))
  · rw [dif_neg h, dif_neg (by omega)]

/-- The first layer is the network's first layer, two places on. -/
theorem lay1_net (f : Fin 32) (b : Fin 128) (i : Fin 16) (t : Fin 1024) :
    lay1 (padX x) w1 b1 (ix4 f b i t) = (net x w1 b1 w2 b2 f b).h1 i (t.val + 2) := by
  unfold lay1 Cert.Cnn.Net.h1
  rw [relu_at, if_pos (by omega)]
  simp only [addf_apply, tap1_at _ (by omega : 0 < 5), tap1_at _ (by omega : 1 < 5), tap1_at _ (by omega : 2 < 5),
    tap1_at _ (by omega : 3 < 5), tap1_at _ (by omega : 4 < 5), padX_net x w1 b1 w2 b2, Fin.sum_univ_five]
  refine congrArg₂ max (congrArg₂ (· + ·) ?_ rfl) rfl
  have e (k : ℕ) (hk : k < 5) : (net x w1 b1 w2 b2 f b).x (k + t.val + 2) * w1 (ix4 f i 0 ⟨k, hk⟩)
      = (net x w1 b1 w2 b2 f b).w1 i ⟨k, hk⟩ * (net x w1 b1 w2 b2 f b).x (t.val + 2 + k) := by
    rw [mul_comm, show k + t.val + 2 = t.val + 2 + k by omega]
    rfl
  rw [e, e, e, e, e]
  rfl

/-- The padded first layer is the network's first layer. -/
theorem padH_net (f : Fin 32) (b : Fin 128) (i : Fin 16) (s : Fin 1028) :
    padH (lay1 (padX x) w1 b1) (ix4 f b i s) = (net x w1 b1 w2 b2 f b).h1 i s.val := by
  rw [padH_at]
  by_cases h : 2 ≤ s.val ∧ s.val < 1026
  · rw [dif_pos h, lay1_net x w1 b1 w2 b2]
    exact congrArg _ (by show s.val - 2 + 2 = s.val; omega)
  · rw [dif_neg h]
    exact (if_neg h).symm

/-- The second layer is the network's second layer. -/
theorem lay2_net (f : Fin 32) (b : Fin 128) (o : Fin 16) (t : Fin 1024) :
    lay2 (padH (lay1 (padX x) w1 b1)) w2 b2 (ix4 f b o t) = (net x w1 b1 w2 b2 f b).h2 o t.val := by
  unfold lay2 Cert.Cnn.Net.h2
  rw [relu_at]
  simp only [addf_apply, tap2_at _ (by omega : 0 < 5), tap2_at _ (by omega : 1 < 5), tap2_at _ (by omega : 2 < 5),
    tap2_at _ (by omega : 3 < 5), tap2_at _ (by omega : 4 < 5), padH_net x w1 b1 w2 b2, Fin.sum_univ_five]
  refine congrArg₂ max (congrArg₂ (· + ·) ?_ rfl) rfl
  have e (k : ℕ) (hk : k < 5) : (∑ i : Fin 16, w2 (ix4 f o i ⟨k, hk⟩) * (net x w1 b1 w2 b2 f b).h1 i (k + t.val))
      = ∑ i : Fin 16, (net x w1 b1 w2 b2 f b).w2 o i ⟨k, hk⟩ * (net x w1 b1 w2 b2 f b).h1 i (t.val + k) := by
    rw [Nat.add_comm k t.val]
    rfl
  rw [e, e, e, e, e]
  rfl

/-- The result's entry is the network's output, with the head's weights divided by the number of times in a quarter. -/
theorem head_net (b : Fin 128) (f : Fin 32) (d : Fin 4) :
    head (lay2 (padH (lay1 (padX x) w1 b1)) w2 b2) pw pb (ix2 b ⟨f.val * 4 + d.val, by omega⟩)
      = (net x w1 b1 w2 b2 f b).out
          (fun i e => Ideal.div (pw (ix3 f d ⟨i.val * 4 + e.val, by omega⟩)) (Ideal.ofBits FTy.f32 1132462080#32)) (pb (ix2 f d)) := by
  rw [head_at]
  refine congrArg (· + pb (ix2 f d)) ?_
  rw [Finset.sum_comm, Cert.Cnn.sum_blocks 16 4]
  refine Finset.sum_congr rfl fun i _ => Finset.sum_congr rfl fun e _ => ?_
  rw [div_move]
  have h1 : (⟨(i.val * 4 + e.val) / 4, by omega⟩ : Fin 16) = i := Fin.ext (by show (i.val * 4 + e.val) / 4 = i.val; omega)
  have h2 : (i.val * 4 + e.val) % 4 = e.val := by omega
  refine congrArg (_ * ·) (Finset.sum_congr rfl fun u _ => ?_)
  rw [lay2_net x w1 b1 w2 b2]
  show Cert.Cnn.Net.h2 _ ⟨(i.val * 4 + e.val) / 4, _⟩ ((i.val * 4 + e.val) % 4 * 256 + u.val) = _
  rw [h1, h2]

end Cert.ReferenceIdeal.Cnn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Cnn.Run
public import proofs.«01_k».proof.Proof.Cnn.Ref
public import Idealize.ShloMosaic.Adequacy
public import Idealize.ShloMosaic.Init
public import Idealize.ShloMosaic.Lib.Quiescent

/-! The five claims: each of the three programs runs to its end with its arguments unchanged and its counters at zero, the idealized kernel is the
    kernel with no operation rewritten, and the idealized kernel and the reference give equal results. -/

@[expose] public section

noncomputable section

set_option maxRecDepth 16384

namespace Cert.Proof

open Idealize.ShloMosaic Idealize.ShloMosaic.TcCoe Idealize.SL.Sem

/-- From the same arguments, the reference's result and the kernel's agree at every sample and column. -/
theorem result_eq (m : (ℓ : Loc Cert.KernelIdeal.nD Cert.KernelIdeal.τ Cert.KernelIdeal.sig) → Buf (Elt Ideal) ℓ) (c : Dev Cert.KernelIdeal.nD)
    (b j : Fin 128) :
    Cert.ReferenceIdeal.Cnn.head (Cert.ReferenceIdeal.Cnn.lay2 (Cert.ReferenceIdeal.Cnn.padH
        (Cert.ReferenceIdeal.Cnn.lay1 (Cert.ReferenceIdeal.Cnn.padX (Cert.KernelIdeal.Cnn.argX m c)) (Cert.KernelIdeal.Cnn.argW1 m c)
          (Cert.KernelIdeal.Cnn.argB1 m c))) (Cert.KernelIdeal.Cnn.argW2 m c) (Cert.KernelIdeal.Cnn.argB2 m c))
      (Cert.KernelIdeal.Cnn.argP m c) (Cert.KernelIdeal.Cnn.argQ m c) (ix2 b j) = Cert.KernelIdeal.Cnn.res m c (ix2 b j) := by
  have hj : (⟨j.val / 4 * 4 + j.val % 4, by omega⟩ : Fin 128) = j := Fin.ext (by show j.val / 4 * 4 + j.val % 4 = j.val; omega)
  have h := Cert.ReferenceIdeal.Cnn.head_net (Cert.KernelIdeal.Cnn.argX m c) (Cert.KernelIdeal.Cnn.argW1 m c) (Cert.KernelIdeal.Cnn.argB1 m c)
    (Cert.KernelIdeal.Cnn.argW2 m c) (Cert.KernelIdeal.Cnn.argB2 m c) (Cert.KernelIdeal.Cnn.argP m c) (Cert.KernelIdeal.Cnn.argQ m c) b
    ⟨j.val / 4, by omega⟩ ⟨j.val % 4, by omega⟩
  have k := Cert.KernelIdeal.Cnn.out_at m c ⟨j.val / 32, by omega⟩ ⟨j.val % 32 / 4, by omega⟩ ⟨j.val % 4, by omega⟩ b
  have e1 : (⟨j.val % 32 / 4 * 4 + j.val % 4, by omega⟩ : Fin 32) = ⟨j.val % 32, by omega⟩ :=
    Fin.ext (by show j.val % 32 / 4 * 4 + j.val % 4 = j.val % 32; omega)
  have e2 : Cert.KernelIdeal.Cnn.fld ⟨j.val / 32, by omega⟩ ⟨j.val % 32 / 4, by omega⟩ = ⟨j.val / 4, by omega⟩ :=
    Fin.ext (by show j.val / 32 * 8 + j.val % 32 / 4 = j.val / 4; omega)
  simp only [hj] at h
  simp only [e1, e2, Cert.KernelIdeal.Cnn.nets] at k
  rw [h, Cert.KernelIdeal.Cnn.res_at, k]
  rfl

/-- The claims of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => (θ_run Cert.ReferenceIdeal.defs _ _).mono (fun r h => ⟨fun c => (h c).2, sem_eq_zero_of_no_sems (by decide) r.2⟩)
    (Cert.ReferenceIdeal.Value.run m ρ), trivial, by
    pair_intro
    · run_from Cert.KernelIdeal.Cnn.run m g
    · run_from Cert.ReferenceIdeal.Value.run m' g'
      obtain ⟨h0, -, h2, h3, h4, h5, h6, h7⟩ := hagree c
      rw [Cert.ReferenceIdeal.Cnn.res_eq, h0, h2, h3, h4, h5, h6, h7]
      funext j
      idx_vars j
      exact result_eq m c _ _⟩

end Cert.Proof

end
